-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384 : Shape := ⟨1, ![16384]⟩
abbrev S16384x64 : Shape := ⟨2, ![16384, 64]⟩
abbrev S1000000x16 : Shape := ⟨2, ![1000000, 16]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S16384x64 .f32) (main_arg3 : FVec F S1000000x16 .f32) (main_arg4 : FVec F S1000000x16 .f32) (main_arg5 : FVec F S64x32 .f32) (main_arg6 : FVec F S32 .f32) (main_arg7 : FVec F S32x16 .f32) (main_arg8 : FVec F S16 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S16384x64 : Shape := ⟨2, ![16384, 64]⟩
abbrev S1000000x16 : Shape := ⟨2, ![1000000, 16]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16384x16 : Shape := ⟨2, ![16384, 16]⟩
abbrev S512 : Shape := ⟨1, ![512]⟩
abbrev S512x16 : Shape := ⟨2, ![512, 16]⟩
abbrev S_ : Shape := ⟨0, ![]⟩
abbrev S1x32 : Shape := ⟨2, ![1, 32]⟩
abbrev S1x16 : Shape := ⟨2, ![1, 16]⟩
abbrev S16384x32 : Shape := ⟨2, ![16384, 32]⟩

abbrev nBuf : Table → Nat
  | .hbm => 14
  | .local .tc .vmem => 8
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x64, .f32⟩
  | .hbm, ⟨3, _⟩ => ⟨S1000000x16, .f32⟩
  | .hbm, ⟨4, _⟩ => ⟨S1000000x16, .f32⟩
  | .hbm, ⟨5, _⟩ => ⟨S64x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16384x16, .f32⟩
  | .hbm, ⟨10, _⟩ => ⟨S16384x16, .f32⟩
  | .hbm, ⟨11, _⟩ => ⟨S1x32, .f32⟩
  | .hbm, ⟨12, _⟩ => ⟨S1x16, .f32⟩
  | .hbm, ⟨13, _⟩ => ⟨S16384, .f32⟩
  | .local .tc .vmem, ⟨0, _⟩ => ⟨S16384x64, .f32⟩
  | .local .tc .vmem, ⟨1, _⟩ => ⟨S16384x16, .f32⟩
  | .local .tc .vmem, ⟨2, _⟩ => ⟨S16384x16, .f32⟩
  | .local .tc .vmem, ⟨3, _⟩ => ⟨S64x32, .f32⟩
  | .local .tc .vmem, ⟨4, _⟩ => ⟨S1x32, .f32⟩
  | .local .tc .vmem, ⟨5, _⟩ => ⟨S32x16, .f32⟩
  | .local .tc .vmem, ⟨6, _⟩ => ⟨S1x16, .f32⟩
  | .local .tc .vmem, ⟨7, _⟩ => ⟨S16384, .f32⟩
  | .local .scVector .vmem, ⟨0, _⟩ => ⟨S512, .i32⟩
  | .local .scVector .vmem, ⟨1, _⟩ => ⟨S512x16, .f32⟩
  | .local .scVector .vmem, ⟨2, _⟩ => ⟨S512, .i32⟩
  | .local .scVector .vmem, ⟨3, _⟩ => ⟨S512x16, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_arg0_scv : Ref sig .scVector := ⟨.hbm, 0, rfl⟩
abbrev main_arg1_scv : Ref sig .scVector := ⟨.hbm, 1, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 9, rfl⟩
abbrev main_v0_1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r2 : BitVec 32 := 0#32
  ![v2.toNat, 0]
abbrev grid1 : Pipeline.Grid := .none

abbrev stage1_0 : Fin 1 → Memref sig .tc .vmem S16384x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16384x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16384x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S16384x64 : Shape := ⟨2, ![16384, 64]⟩
abbrev S1000000x16 : Shape := ⟨2, ![1000000, 16]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩
abbrev S16384x32 : Shape := ⟨2, ![16384, 32]⟩
abbrev S1x32 : Shape := ⟨2, ![1, 32]⟩
abbrev S1x16 : Shape := ⟨2, ![1, 16]⟩

abbrev nBuf : Space → Nat
  | .hbm => 70
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x64, .f32⟩
  | .hbm, ⟨3, _⟩ => ⟨S1000000x16, .f32⟩
  | .hbm, ⟨4, _⟩ => ⟨S1000000x16, .f32⟩
  | .hbm, ⟨5, _⟩ => ⟨S64x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x16, .f32⟩
  | .hbm, ⟨28, _⟩ => ⟨S16384x16, .i1⟩
  | .hbm, ⟨29, _⟩ => ⟨S_, .f32⟩
  | .hbm, ⟨30, _⟩ => ⟨S16384x16, .f32⟩
  | .hbm, ⟨31, _⟩ => ⟨S16384x16, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x16, .f32⟩
  | .hbm, ⟨51, _⟩ => ⟨S16384x16, .i1⟩
  | .hbm, ⟨52, _⟩ => ⟨S_, .f32⟩
  | .hbm, ⟨53, _⟩ => ⟨S16384x16, .f32⟩
  | .hbm, ⟨54, _⟩ => ⟨S16384x16, .f32⟩
  | .hbm, ⟨55, _⟩ => ⟨S16384x32, .f32⟩
  | .hbm, ⟨56, _⟩ => ⟨S1x32, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S16384x32, .f32⟩
  | .hbm, ⟨61, _⟩ => ⟨S16384x32, .f32⟩
  | .hbm, ⟨62, _⟩ => ⟨S16384x16, .f32⟩
  | .hbm, ⟨63, _⟩ => ⟨S1x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S_, .f32⟩
  | .hbm, ⟨69, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_cst_0 : Ref sig .tc := ⟨.hbm, 68, rfl⟩
abbrev main_v14 : Ref sig .tc := ⟨.hbm, 69, rfl⟩

abbrev nD : Nat := 1
abbrev τ : Topo := Topo.v7x

variable {F : FTy → Type} [FloatOps F]
-- ==== Proof.Rows.lean ====
/-
  What the look-up kernel means, apart from any one program: row `i` of the result is the row of the table that word
  `i` of the id list names (`gatherRows`), the read shares of a table that thirty-two tiles hold at once
  (`tileShare`), and the numbering of the tiles (`tileEquiv`: tile `s` of SparseCore `c` is number `2 s + c`).
-/
module

public import Idealize.ShloMosaic.Lib.SparseCore.Stream
public import Idealize.ShloMosaic.Lib.ShareLeaves
public import Idealize.ShloMosaic.Lib.Writes

@[expose] public section

noncomputable section

namespace Cert.Proof

open Idealize.ShloMosaic Idealize.SL Idealize.SL.RA

/-- The shape of an id list, of a table and of a looked-up array. -/
abbrev Ids : Shape := ⟨1, ![16384]⟩
abbrev Table : Shape := ⟨2, ![1000000, 16]⟩
abbrev Looked : Shape := ⟨2, ![16384, 16]⟩

/-- The index of an id list at position `i`. -/
def idAt (i : Fin 16384) : Ids.Idx := fun | 0 => i

/-- The index of a table at row `r` and column `c`. -/
def tableAt (r : Fin 1000000) (c : Fin 16) : Table.Idx := fun | 0 => r | 1 => c

/-- The table row an id names. An id in range is its own row; the remainder only makes the function total. -/
def rowNamed (w : BitVec 32) : Fin 1000000 := ⟨w.toNat % 1000000, Nat.mod_lt _ (by decide)⟩

/-- An id below the table's height names the row of its own number. -/
theorem rowNamed_val {w : BitVec 32} (h : w.toNat < 1000000) : (rowNamed w).val = w.toNat := Nat.mod_eq_of_lt h

/-- The rows of `tab` that `ids` names, in order. -/
def gatherRows {α : Type} (ids : Ids.Idx → BitVec 32) (tab : Table.Idx → α) : Looked.Idx → α :=
  fun j => tab (tableAt (rowNamed (ids (idAt (j 0)))) (j 1))

/-- The share of a table that tile number `k` reads it at. -/
abbrev tileShare (k : Fin 32) : PosShare TreeShare := ShareLeaves.leaf 5 fullShare k

/-- The tiles as pairs (subcore, SparseCore), and their numbers. -/
abbrev tileEquiv : Fin 16 × Fin 2 ≃ Fin 32 := finProdFinEquiv

/-- Subcore `s` of SparseCore `c` is tile `2 s + c`. -/
theorem tileEquiv_val (s : Fin 16) (c : Fin 2) : (tileEquiv (s, c)).val = 2 * s.val + c.val := by
  simp [tileEquiv, finProdFinEquiv]; omega

/-- What a view reads after a transfer wrote all of it: the transfer's payload. -/
theorem read_landed {sig : RefSig} {κ : Kind} {sp : Space} {s : Shape} {e : EltTy} {Val : EltTy → Type} (v : View sig κ sp s e)
    (f : v.ty.Contents Val) (w : s.Idx → Val e) :
    v.read Val (v.writes Val f [(⟨Rect.whole s, w⟩ : View.Piece Val s e)]) = w := by
  funext y
  have h := View.read_slice_write_emb (v := v) (Rect.whole s) f w (M := Finset.univ) (x := y) (Finset.mem_univ _)
  rwa [Rect.emb_whole_apply] at h

/-- The elements of a view written whole are the elements at any contents the view reads as the payload. -/
theorem pointsTo_landed {nD : ℕ} {τ : Topo} {sig : RefSig} {Ix : Type} [DecidableEq Ix] {Val : EltTy → Type} {Name : Type}
    [DecidableEq Name] {U : Type} [URA U] {Lvl : Type} (c : Thread nD τ) {sp : Space} {s : Shape} {e : EltTy}
    (v : View sig c.2.kind sp s e) (q : PosShare TreeShare) (f g : Buf Val (v.loc c)) (w : s.Idx → Val e) (h : ∀ x, v.read Val g x = w x) :
    ((v.loc c ↦[v.set]{q} v.writes Val f [(⟨Rect.whole s, w⟩ : View.Piece Val s e)]) : BI.sProp (MT nD τ sig Ix Val Name U Lvl))
      = (v.loc c ↦[v.set]{q} g) := by
  refine pointsTo_congr fun i hi => ?_
  obtain ⟨x, -, rfl⟩ := Finset.mem_map.mp hi
  have hx := (congrFun (read_landed v f w) x).trans (h x).symm
  rw [View.read_apply, View.read_apply] at hx
  exact (cast_inj _).mp hx

end Cert.Proof

end
-- ==== Proof.IdealTile.lean ====
/-
  The SparseCore half of the kernel: the task of one tile, carried with its values.

  Thirty-two tiles run the task at once. Tile `k` copies words `512 k … 512 k + 511` of the two id lists into its own
  memory, starts two indexed copies — the rows of the user table and of the item table those words name, into two
  scratch arrays of 512 rows — waits for both, and copies the scratch arrays out to rows `512 k … 512 k + 511` of the two
  results. All tiles read the tables at the same time, each at a thirty-second share.

  The payload of the launch says what comes back: a tile returns its blocks of the results at the looked-up rows
  (`gatherRows`), not merely at some contents.
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs on sixteen subcores of each SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: the handshake semaphores are distinct and outlive the regions, and no buffer a
    SparseCore owns is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelined region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg3
abbrev itLoc (d : Dev nD) : Loc nD τ sig := (SparseCore.T d).loc main_arg4
abbrev uoLoc (d : Dev nD) : Loc nD τ sig := (SparseCore.T d).loc main_v0_0
abbrev ioLoc (d : Dev nD) : Loc nD τ sig := (SparseCore.T d).loc main_v0_1

abbrev uV : Memref sig .scVector .hbm S16384 .i32 := Memref.whole main_arg0_scv
abbrev iV : Memref sig .scVector .hbm S16384 .i32 := Memref.whole main_arg1_scv
abbrev utV : Memref sig .scVector .hbm S1000000x16 .f32 := Memref.whole main_arg3_scv
abbrev itV : Memref sig .scVector .hbm S1000000x16 .f32 := Memref.whole main_arg4_scv
abbrev uoV : Memref sig .scVector .hbm S16384x16 .f32 := Memref.whole main_v0_0_scv
abbrev ioV : Memref sig .scVector .hbm S16384x16 .f32 := Memref.whole main_v0_1_scv
abbrev usV : Memref sig .scVector .vmem S512 .i32 := Memref.whole cc0_scratch0
abbrev urV : Memref sig .scVector .vmem S512x16 .f32 := Memref.whole cc0_scratch1
abbrev isV : Memref sig .scVector .vmem S512 .i32 := Memref.whole cc0_scratch2
abbrev irV : Memref sig .scVector .vmem S512x16 .f32 := Memref.whole cc0_scratch3

/-! ## The blocks: 512 ids, 512 rows, one of thirty-two -/

/-- The id list divides into thirty-two blocks. -/
theorem iddiv : 32 ∣ S16384.size 0 := ⟨512, rfl⟩
/-- The looked-up rows divide into thirty-two blocks. -/
theorem rowdiv : 32 ∣ S16384x16.size 0 := ⟨512, rfl⟩
abbrev idPart (k : Fin 32) : Rect S16384 := Rect.part (s := S16384) (a₀ := 0) iddiv k
abbrev rowPart (k : Fin 32) : Rect S16384x16 := Rect.part (s := S16384x16) (a₀ := 0) rowdiv k
abbrev idSet (k : Fin 32) : Finset S16384.Idx := (idPart k).set
abbrev rowSet (k : Fin 32) : Finset S16384x16.Idx := (rowPart k).set

/-- A slice of a whole buffer addresses the slice's rectangle. -/
theorem set_slice_whole {κ : Kind} (b : Ref sig κ) (r : Rect b.ty.shape) : ((View.whole b).slice r).set = r.set := by
  rw [View.set_slice]; exact Finset.map_refl

/-! ## What the handshakes carry -/

/-- The user rows and the item rows of device `d`: the two tables' rows that the launch memory's ids name. -/
abbrev uRows (d : Dev nD) : Buf (Elt F) (uoLoc d) := gatherRows (m (uLoc d)) (m (utLoc d))
abbrev iRows (d : Dev nD) : Buf (Elt F) (ioLoc d) := gatherRows (m (iLoc d)) (m (itLoc d))

abbrev uPart (d : Dev nD) (k : Fin 32) : sProp 𝕄 := uLoc d ↦[idSet k]{fullShare} m (uLoc d)
abbrev iPart (d : Dev nD) (k : Fin 32) : sProp 𝕄 := iLoc d ↦[idSet k]{fullShare} m (iLoc d)
abbrev utShare (d : Dev nD) (k : Fin 32) : sProp 𝕄 := utLoc d ↦{tileShare k} m (utLoc d)
abbrev itShare (d : Dev nD) (k : Fin 32) : sProp 𝕄 := itLoc d ↦{tileShare k} m (itLoc d)
abbrev uoPart (d : Dev nD) (f : Buf (Elt F) (uoLoc d)) (k : Fin 32) : sProp 𝕄 := uoLoc d ↦[rowSet k]{fullShare} f
abbrev ioPart (d : Dev nD) (f : Buf (Elt F) (ioLoc d)) (k : Fin 32) : sProp 𝕄 := ioLoc d ↦[rowSet k]{fullShare} f

/-- What tile `k` holds: its ids, its shares of the tables, its blocks of the results at `f` and `g`. -/
abbrev tilePts (d : Dev nD) (f : Buf (Elt F) (uoLoc d)) (g : Buf (Elt F) (ioLoc d)) (k : Fin 32) : sProp 𝕄 :=
  iprop(uPart m d k ∗ iPart m d k ∗ utShare m d k ∗ itShare m d k ∗ uoPart d f k ∗ ioPart d g k)

/-- The number of the tile that is subcore `i` of SparseCore `c` of the call. -/
abbrev tileNo (c : Fin ((K (F := F)).nCore 0)) (i : Fin ((K (F := F)).nSub 0)) : Fin 32 :=
  tileEquiv (Fin.cast nSub_zero i, Fin.cast nCore_zero c)

/-- What tile `k` is given, and what it brings back. -/
abbrev goPts (d : Dev nD) (k : Fin 32) : sProp 𝕄 := tilePts m d (m (uoLoc d)) (m (ioLoc d)) k
abbrev tdPts (d : Dev nD) (k : Fin 32) : sProp 𝕄 := tilePts m d (uRows m d) (iRows m d) k

/-- The one call: a SparseCore takes what its sixteen tiles take and brings back what they bring back. -/
def P : (K (F := F)).Pay (nD := nD) (Val := Elt F) (Name := ℕ) (U := UU) where
  st := fun q d c => match q with | 0 => bigSep Finset.univ fun i => goPts m d (tileNo c i)
  dn := fun q d c => match q with | 0 => bigSep Finset.univ fun i => tdPts m d (tileNo c i)
  go := fun q d c i => match q with | 0 => goPts m d (tileNo c i)
  td := fun q d c i => match q with | 0 => tdPts m d (tileNo c i)
  x := fun _ _ => iprop(emp)

instance P_storable : (P (F := F) m).IsStorable where
  st q d c := match q with
    | 0 => (inferInstance : BI.Storable (upEmb : UEmb _ 𝕄) (bigSep Finset.univ fun i => goPts m d (tileNo c i)))
  dn q d c := match q with
    | 0 => (inferInstance : BI.Storable (upEmb : UEmb _ 𝕄) (bigSep Finset.univ fun i => tdPts m d (tileNo c i)))
  go q d c i := match q with | 0 => (inferInstance : BI.Storable (upEmb : UEmb _ 𝕄) (goPts m d (tileNo c i)))
  td q d c i := match q with | 0 => (inferInstance : BI.Storable (upEmb : UEmb _ 𝕄) (tdPts m d (tileNo c i)))

/-- What the proof asks of the launch memory: every user id and every item id is the number of a table row. -/
def PreOK : Prop := ∀ (d : Dev nD) (j : S16384.Idx), (m (uLoc d) j).toNat < 1000000 ∧ (m (iLoc d) j).toNat < 1000000

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := SparseCore.V d (cV L) (jV L)
omit [FloatOps F] in
/-- The grid has two SparseCores. -/
theorem bound_zero : grid0.bound 0 = 2 := rfl
omit [FloatOps F] in
/-- The grid has sixteen subcores. -/
theorem bound_one : grid0.bound 1 = 16 := rfl
/-- The tile's number. -/
abbrev wid (L : grid0.Coords) : Fin 32 := tileEquiv (Fin.cast bound_one (L 1), Fin.cast bound_zero (L 0))

omit [FloatOps F] in
/-- A tile's number is twice its subcore's plus its SparseCore's. -/
theorem wid_val : (wid L).val = 2 * (L 1).val + (L 0).val := tileEquiv_val _ _

abbrev idRect (L : grid0.Coords) : Rect S16384 := Rect.unit (s := S16384) (k0_off1 L) S512.size (k0_off1_inb L)
abbrev rowRect (L : grid0.Coords) : Rect S16384x16 := Rect.unit (s := S16384x16) (k0_off2 L) S512x16.size (k0_off2_inb L)
abbrev allRect : Rect S1000000x16 := Rect.unit (s := S1000000x16) ![0, 0] S1000000x16.size inb_S1000000x16_S1000000x16_0_0
/-- The blocks and the tables as the task addresses them. -/
abbrev uBlk (L : grid0.Coords) : Memref sig .scVector .hbm S512 .i32 := uV.slice (idRect L) (fun _ => rfl)
abbrev iBlk (L : grid0.Coords) : Memref sig .scVector .hbm S512 .i32 := iV.slice (idRect L) (fun _ => rfl)
abbrev utAll : Memref sig .scVector .hbm S1000000x16 .f32 := utV.slice allRect (fun _ => rfl)
abbrev itAll : Memref sig .scVector .hbm S1000000x16 .f32 := itV.slice allRect (fun _ => rfl)
abbrev uoBlk (L : grid0.Coords) : Memref sig .scVector .hbm S512x16 .f32 := uoV.slice (rowRect L) (fun _ => rfl)
abbrev ioBlk (L : grid0.Coords) : Memref sig .scVector .hbm S512x16 .f32 := ioV.slice (rowRect L) (fun _ => rfl)

omit [FloatOps F] in
/-- The ids a tile fetches are block `wid` of the list. -/
theorem idRect_eq : idRect L = idPart (wid L) := by
  have hw := wid_val L
  unfold idRect idPart Rect.part Rect.block
  congr 1 <;> funext a
  · rw [k0_off1_eq]
    match a with
    | 0 => simp [Shape.partIx, Shape.partSize] ; omega
  · match a with
    | 0 => simp [Shape.partSize]
omit [FloatOps F] in
/-- The rows a tile writes are block `wid` of the result. -/
theorem rowRect_eq : rowRect L = rowPart (wid L) := by
  have hw := wid_val L
  unfold rowRect rowPart Rect.part Rect.block
  congr 1 <;> funext a
  · rw [k0_off2_eq]
    match a with
    | 0 => simp [Shape.partIx, Shape.partSize] ; omega
    | 1 => simp [Shape.partIx, Shape.partSize]
  · match a with
    | 0 => simp [Shape.partSize]
    | 1 => simp [Shape.partSize]

omit [FloatOps F] in
/-- The user ids a tile addresses are the block of its number. -/
theorem set_uBlk : (uBlk L).view.set = idSet (wid L) := (set_slice_whole _ _).trans (congrArg (fun r : Rect _ => r.set) (idRect_eq L))
omit [FloatOps F] in
/-- The item ids a tile addresses are the block of its number. -/
theorem set_iBlk : (iBlk L).view.set = idSet (wid L) := (set_slice_whole _ _).trans (congrArg (fun r : Rect _ => r.set) (idRect_eq L))
omit [FloatOps F] in
/-- The rows of the user result a tile addresses are the block of its number. -/
theorem set_uoBlk : (uoBlk L).view.set = rowSet (wid L) := (set_slice_whole _ _).trans (congrArg (fun r : Rect _ => r.set) (rowRect_eq L))
omit [FloatOps F] in
/-- The rows of the item result a tile addresses are the block of its number. -/
theorem set_ioBlk : (ioBlk L).view.set = rowSet (wid L) := (set_slice_whole _ _).trans (congrArg (fun r : Rect _ => r.set) (rowRect_eq L))

omit [FloatOps F] in
/-- Holding a tile's user ids as the tile addresses them is holding that block of the list. -/
theorem pts_uBlk (f : Buf (Elt F) (uLoc d)) :
    ((uBlk L).view.loc (thr d L) ↦[(uBlk L).view.set]{fullShare} f : sProp 𝕄) = uLoc d ↦[idSet (wid L)]{fullShare} f := by
  rw [set_uBlk]
omit [FloatOps F] in
/-- Holding a tile's item ids as the tile addresses them is holding that block of the list. -/
theorem pts_iBlk (f : Buf (Elt F) (iLoc d)) :
    ((iBlk L).view.loc (thr d L) ↦[(iBlk L).view.set]{fullShare} f : sProp 𝕄) = iLoc d ↦[idSet (wid L)]{fullShare} f := by
  rw [set_iBlk]
omit [FloatOps F] in
/-- Holding a tile's rows of the user result as the tile addresses them is holding that block. -/
theorem pts_uoBlk (f : Buf (Elt F) (uoLoc d)) :
    ((uoBlk L).view.loc (thr d L) ↦[(uoBlk L).view.set]{fullShare} f : sProp 𝕄) = uoLoc d ↦[rowSet (wid L)]{fullShare} f := by
  rw [set_uoBlk]
omit [FloatOps F] in
/-- Holding a tile's rows of the item result as the tile addresses them is holding that block. -/
theorem pts_ioBlk (f : Buf (Elt F) (ioLoc d)) :
    ((ioBlk L).view.loc (thr d L) ↦[(ioBlk L).view.set]{fullShare} f : sProp 𝕄) = ioLoc d ↦[rowSet (wid L)]{fullShare} f := by
  rw [set_ioBlk]

/-! ### The values: an indexed copy lands the rows the ids name -/

omit [FloatOps F] in
/-- Word `x` of a tile's block of a list of ids stands at the position of row `x` of the tile's block of a result. -/
theorem idBlk_emb (x : S512x16.Idx) (y : S512.Idx) (h : (y 0).val = (x 0).val) :
    (idRect L).emb y = idAt ((rowRect L).emb x 0) := by
  funext a
  match a with
  | 0 =>
    refine Fin.ext ?_
    show (k0_off1 L 0 + 1 * (y 0).val : ℕ) = k0_off2 L 0 + 1 * (x 0).val
    rw [k0_off1_eq, k0_off2_eq, h]; rfl

omit [FloatOps F] in
/-- The indexed copy's payload is the looked-up rows of the tile's block: at `x` it is the table at the row the tile's
    word number `x 0` names, and that word is the list's word at the position of the result's row. -/
theorem gathered_eq {ids : Ids.Idx → BitVec 32} {tab : Table.Idx → F .f32} {lst : S512.Idx → BitVec 32}
    {src : S1000000x16.Idx → F .f32} (hlst : ∀ y, lst y = ids ((idRect L).emb y)) (hsrc : ∀ y, src y = tab (allRect.emb y))
    (hin : ∀ y, (lst y).toNat < S1000000x16.size gathers_S1000000x16_S512x16.axis) (x : S512x16.Idx) :
    SparseCore.gatherPayload (F := F) (e := .f32) gathers_S1000000x16_S512x16 src
        (SparseCore.rows (F := F) lst (rfl : S512.numel = S512x16.size gathers_S1000000x16_S512x16.axis') hin) x
      = gatherRows ids tab ((rowRect L).emb x) := by
  unfold SparseCore.gatherPayload gatherRows
  rw [hsrc]
  congr 1
  have hx : ∀ k : Fin S512.numel, ((S512.rowMajor.symm k) 0).val = k.val := fun k =>
    (Shape.rowMajor_val_one (S512.rowMajor.symm k)).symm.trans (congrArg Fin.val (S512.rowMajor.apply_symm_apply k))
  funext a
  match a with
  | 0 =>
    refine Fin.ext ?_
    show (0 + 1 * (Shape.Gathers.idx gathers_S1000000x16_S512x16 _ x gathers_S1000000x16_S512x16.axis).val : ℕ) = (rowNamed _).val
    rw [Shape.Gathers.idx_axis, Nat.zero_add, Nat.one_mul]
    have e := idBlk_emb L x (S512.rowMajor.symm (x 0)) (hx _)
    rw [rowNamed_val]
    · show (lst (S512.rowMajor.symm (x 0))).toNat = _
      rw [hlst, e]
    · rw [← e, ← hlst]; exact hin _
  | 1 =>
    refine Fin.ext ?_
    show (0 + 1 * (Shape.Gathers.idx gathers_S1000000x16_S512x16 _ x 1).val : ℕ) = (k0_off2 L 1 + 1 * (x 1).val : ℕ)
    rw [Shape.Gathers.idx_of_ne _ _ _ _ (by decide), k0_off2_eq]; rfl

/-! ### The subcore's own semaphores and scratch -/

/-- The subcore's cell of one DMA semaphore. -/
abbrev cell (d : Dev nD) (L : grid0.Coords) (s : DmaSem sig) : GSem nD τ sig := (thr d L, .dma s)

omit [FloatOps F] in
/-- Two semaphores of a subcore have two cells. -/
theorem cell_ne {s s' : DmaSem sig} (h : s' ≠ s) : cell d L s' ≠ cell d L s :=
  fun e => h (SemLoc.dma.inj (Prod.mk.inj e).2)
omit [FloatOps F] in
/-- A semaphore scoped to the subcore is among the subcore's own. -/
theorem cell_mem {s : DmaSem sig} (h : (SemLoc.dma s : SemLoc sig).isScoped .scVector = true) : cell d L s ∈ ownCells (thr d L) :=
  mem_ownCells.mpr ⟨rfl, h⟩

/-- A finite set less some of its members, in the order they are taken out. -/
abbrev less {α : Type} [DecidableEq α] (s : Finset α) (l : List α) : Finset α := l.foldl Finset.erase s

omit [FloatOps F] in
/-- The six DMA semaphores the task uses are among the subcore's own. -/
theorem ownSems0_V :
    (ownSems0 (thr d L) : sProp 𝕄)
      = iprop(semVal (cell d L cc0_scoped0.sem) 0 ∗ semVal (cell d L cc0_scoped1.sem) 0 ∗ semVal (cell d L cc0_scratch4.sem) 0
          ∗ semVal (cell d L cc0_scratch5.sem) 0 ∗ semVal (cell d L cc0_scoped2.sem) 0 ∗ semVal (cell d L cc0_scoped3.sem) 0
          ∗ bigSep (less (ownCells (thr d L)) [cell d L cc0_scoped0.sem, cell d L cc0_scoped1.sem, cell d L cc0_scratch4.sem,
              cell d L cc0_scratch5.sem, cell d L cc0_scoped2.sem, cell d L cc0_scoped3.sem]) fun g => semVal g 0) := by
  have ne {s s' : DmaSem sig} (h : s' ≠ s) {S : Finset (GSem nD τ sig)} (hm : cell d L s' ∈ S) : cell d L s' ∈ S.erase (cell d L s) :=
    Finset.mem_erase.mpr ⟨cell_ne d L h, hm⟩
  unfold SparseCore.Cfg.ownSems0
  rw [SparseCore.bigSep_erase' (cell_mem d L (s := cc0_scoped0.sem) (by decide)),
    SparseCore.bigSep_erase' (ne (by decide) (cell_mem d L (s := cc0_scoped1.sem) (by decide))),
    SparseCore.bigSep_erase' (ne (by decide) (ne (by decide) (cell_mem d L (s := cc0_scratch4.sem) (by decide)))),
    SparseCore.bigSep_erase' (ne (by decide) (ne (by decide) (ne (by decide) (cell_mem d L (s := cc0_scratch5.sem) (by decide))))),
    SparseCore.bigSep_erase' (ne (by decide) (ne (by decide) (ne (by decide) (ne (by decide) (cell_mem d L (s := cc0_scoped2.sem) (by decide)))))),
    SparseCore.bigSep_erase' (ne (by decide) (ne (by decide) (ne (by decide) (ne (by decide) (ne (by decide) (cell_mem d L (s := cc0_scoped3.sem) (by decide)))))))]
  rfl

/-- A buffer of the subcore's, as a device names it. -/
abbrev scr (L : grid0.Coords) (b : Ref sig .scVector) : DevRef τ sig := (Proc.scVector (cV L) (jV L)).devRef b

omit [FloatOps F] in
/-- The four scratch buffers are among the subcore's own, each at some contents. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (less (ownRefs (τ := τ) (.scVector (cV L) (jV L))) [scr L cc0_scratch0, scr L cc0_scratch1, scr L cc0_scratch2, scr L cc0_scratch3])
              fun b => iprop(∃ f, ((d, b) : Loc nD τ sig) ↦{fullShare} f)) := by
  have mem (b : Ref sig .scVector) (h : (scr L b).owner = .proc (Proc.scVector (cV L) (jV L))) :
      scr L b ∈ ownRefs (τ := τ) (.scVector (cV L) (jV L)) := SparseCore.Cfg.mem_ownRefs_of_owner h
  have ne {b b' : Ref sig .scVector} (h : b' ≠ b) {S : Finset (DevRef τ sig)} (hm : scr L b' ∈ S) : scr L b' ∈ S.erase (scr L b) :=
    Finset.mem_erase.mpr ⟨fun e => h (Proc.devRef_injective _ e), hm⟩
  unfold SparseCore.Cfg.ownBufs
  refine (SparseCore.bigSep_erase' (mem cc0_scratch0 rfl)).trans ?_
  rw [SparseCore.bigSep_erase' (ne (by decide) (mem cc0_scratch1 rfl)),
    SparseCore.bigSep_erase' (ne (by decide) (ne (by decide) (mem cc0_scratch2 rfl))),
    SparseCore.bigSep_erase' (ne (by decide) (ne (by decide) (ne (by decide) (mem cc0_scratch3 rfl))))]
  rfl

/-! ### The task's run -/

omit [FloatOps F] in
/-- A list the tile has fetched holds words of the launch's list: each names a table row. -/
theorem inb_of_lt {ids : Ids.Idx → BitVec 32} (h : ∀ j, (ids j).toNat < 1000000) {lst : S512.Idx → BitVec 32}
    (hlst : ∀ y, lst y = ids ((idRect L).emb y)) (y : S512.Idx) :
    (lst y).toNat < S1000000x16.size gathers_S1000000x16_S512x16.axis := by
  rw [hlst]; exact h _

set_option maxHeartbeats 4000000 in
/-- The task on tile `L`: the two lists fetched, the two indexed copies started and awaited, the rows written out. The
    ids and the shares of the tables come back unchanged and the tile's blocks of the results at the looked-up rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goPts m d (wid L)
        ∗ scopedBufs (thr d L) ∗ scopedSems0 (thr d L) ∗ owes (thr d L) O W)
      ⊢ wp frame (wpE (defs₀ (F := F)) 𝒱₀ (thr d L) none) Set.univ
          (cc0_gather_kernel L uV (Memref.isWhole_whole _) iV (Memref.isWhole_whole _) utV (Memref.isWhole_whole _) itV (Memref.isWhole_whole _)
            uoV (Memref.isWhole_whole _) ioV (Memref.isWhole_whole _) usV (Memref.isWhole_whole _) urV (Memref.isWhole_whole _)
            isV (Memref.isWhole_whole _) irV (Memref.isWhole_whole _) cc0_scratch4 cc0_scratch5 cc0_scoped0 cc0_scoped1 cc0_scoped2 cc0_scoped3)
          fun _ => iprop(tdPts m d (wid L)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hu, Hi, Hut, Hit, Huo, Hio⟩, ⟨⟨%fus, Hus⟩, ⟨%fur, Hur⟩, ⟨%fis, His⟩, ⟨%fir, Hir⟩, Hbufs⟩, ⟨Hs0, Hs1, Hg0, Hg1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  ihave Hu' := (Entails.of_eq (pts_uBlk (F := F) d L _).symm) $$ Hu
  ihave Hi' := (Entails.of_eq (pts_iBlk (F := F) d L _).symm) $$ Hi
  ihave Huo' := (Entails.of_eq (pts_uoBlk (F := F) d L _).symm) $$ Huo
  ihave Hio' := (Entails.of_eq (pts_ioBlk (F := F) d L _).symm) $$ Hio
  ihave Hus' := (Entails.of_eq (show ((thr d L).loc cc0_scratch0 ↦{fullShare} fus : sProp 𝕄) = usV.view.loc (thr d L) ↦{fullShare} fus from rfl)) $$ Hus
  ihave Hur' := (Entails.of_eq (show ((thr d L).loc cc0_scratch1 ↦{fullShare} fur : sProp 𝕄) = urV.view.loc (thr d L) ↦{fullShare} fur from rfl)) $$ Hur
  ihave His' := (Entails.of_eq (show ((thr d L).loc cc0_scratch2 ↦{fullShare} fis : sProp 𝕄) = isV.view.loc (thr d L) ↦{fullShare} fis from rfl)) $$ His
  ihave Hir' := (Entails.of_eq (show ((thr d L).loc cc0_scratch3 ↦{fullShare} fir : sProp 𝕄) = irV.view.loc (thr d L) ↦{fullShare} fir from rfl)) $$ Hir
  ihave Hut' := (Entails.of_eq (show (utShare m d (wid L) : sProp 𝕄) = utV.view.loc (thr d L) ↦{tileShare (wid L)} m (utLoc d) from rfl)) $$ Hut
  ihave Hit' := (Entails.of_eq (show (itShare m d (wid L) : sProp 𝕄) = itV.view.loc (thr d L) ↦{tileShare (wid L)} m (itLoc d) from rfl)) $$ Hit
  sl_exec
  -- what the two fetches landed: words of the launch's lists, each in range
  have hlu : ∀ y, (usV.view.read (Elt F) (View.write (Elt F) usV.view fus (tile_body.sl.dma0 m d L) Finset.univ)) y = m (uLoc d) ((idRect L).emb y) :=
    fun y => (congrFun (View.write_whole_univ (cc0_scratch0 : Ref sig .scVector) fus _) y).trans rfl
  have hli : ∀ y, (isV.view.read (Elt F) (View.write (Elt F) isV.view fis (tile_body.sl.dma0_1 m d L) Finset.univ)) y = m (iLoc d) ((idRect L).emb y) :=
    fun y => (congrFun (View.write_whole_univ (cc0_scratch2 : Ref sig .scVector) fis _) y).trans rfl
  have hinu := inb_of_lt L (fun j => (hpre d j).1) hlu
  have hini := inb_of_lt L (fun j => (hpre d j).2) hli
  sl_exec
  -- what the write-outs landed: the rows the tile's words name
  have huo := pointsTo_landed (Ix := HIx 1) (Name := ℕ) (U := UU) (Lvl := ℕ) (thr d L) (uoBlk L).view fullShare (m (uoLoc d)) (uRows m d)
    (tile_body.sl.dma0_2 m d L fus fur hinu) (fun x => (gathered_eq L hlu (fun _ => rfl) hinu x).symm.trans
      (congrFun (read_landed urV.view fur (tile_body.sl.gather0 m d L fus hinu)) x).symm)
  have hio := pointsTo_landed (Ix := HIx 1) (Name := ℕ) (U := UU) (Lvl := ℕ) (thr d L) (ioBlk L).view fullShare (m (ioLoc d)) (iRows m d)
    (tile_body.sl.dma0_3 m d L fis fir hini) (fun x => (gathered_eq L hli (fun _ => rfl) hini x).symm.trans
      (congrFun (read_landed irV.view fir (tile_body.sl.gather1 m d L fis hini)) x).symm)
  sl_step
  isplitl [Hu' Hi' Hut' Hit' Huo' Hio']
  · isplitl [Hu']; · iapply (Entails.of_eq (pts_uBlk (F := F) d L _)); iexact Hu'
    isplitl [Hi']; · iapply (Entails.of_eq (pts_iBlk (F := F) d L _)); iexact Hi'
    isplitl [Hut']; · iexact Hut'
    isplitl [Hit']; · iexact Hit'
    isplitl [Huo']
    · iapply (Entails.of_eq (huo.trans (pts_uoBlk (F := F) d L _))); iexact Huo'
    · iapply (Entails.of_eq (hio.trans (pts_ioBlk (F := F) d L _))); iexact Hio'
  isplitl [Hus' Hur' His' Hir' Hbufs]
  · isplitl [Hus']; · iexists _; iexact Hus'
    isplitl [Hur']; · iexists _; iexact Hur'
    isplitl [His']; · iexists _; iexact His'
    isplitl [Hir']; · iexists _; iexact Hir'
    iexact Hbufs
  isplitl [Hs0 Hs1 Hg0 Hg1 Hs2 Hs3 Hsems]
  · isplitl [Hs0]; · iexact Hs0
    isplitl [Hs1]; · iexact Hs1
    isplitl [Hg0]; · iexact Hg0
    isplitl [Hg1]; · iexact Hg1
    isplitl [Hs2]; · iexact Hs2
    isplitl [Hs3]; · iexact Hs3
    iexact Hsems
  iexists _; isplitr
  swap; · iexact HO
  ipureintro; intro p hp
  simp only [Finset.mem_insert] at hp
  rcases hp with hp | hp | hp | hp | hp | hp | hp
  iterate 6 exact .inr (hp ▸ rfl)
  exact .inl hp

/-! ## The obligation -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the kernel's body at the subcore's grid point. -/
theorem defs₀_vector (c : Fin τ.nSC) (s : Fin τ.nSub) :
    defs₀ (F := F) (.scVector c s) 0 ()
      = SparseCore.onTile hcore0 hsub0 (fun c s => cc0_gather_kernel (coordsV c s)
          uV (Memref.isWhole_whole _) iV (Memref.isWhole_whole _) utV (Memref.isWhole_whole _) itV (Memref.isWhole_whole _)
          uoV (Memref.isWhole_whole _) ioV (Memref.isWhole_whole _) usV (Memref.isWhole_whole _) urV (Memref.isWhole_whole _)
          isV (Memref.isWhole_whole _) irV (Memref.isWhole_whole _) cc0_scratch4 cc0_scratch5 cc0_scoped0 cc0_scoped1 cc0_scoped2 cc0_scoped3) ⟨⟩ c s := rfl

omit [FloatOps F] in
/-- A task's own waits are among those the launch lets it record. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call meets its obligation: its task's run. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

omit [FloatOps F] in
/-- A SparseCore's operands are its tiles' operands, and its results its tiles' results: nothing to split or to join. -/
theorem vecSplit : (K (F := F)).VecSplit' (P m) 0 := by
  intro d c
  show (bigSep Finset.univ fun i => goPts m d (tileNo c i)) ⊢ |={Set.univ}=> iprop(
      (bigSep Finset.univ fun i => goPts m d (tileNo c i))
      ∗ ((bigSep Finset.univ fun i => tdPts m d (tileNo c i)) -∗ bigSep Finset.univ fun i => tdPts m d (tileNo c i)))
  iintro H; imodintro
  isplitl [H]; · iexact H
  iintro H; iexact H

end Tile

end Cert.Proof.KernelIdeal

end
-- ==== Proof.IdealRegion.lean ====
/-
  The TensorCore half of the kernel: the combining pallas_call, carried with its values.

  The call has no grid: its eight windows are whole arrays. Seven are fetched (the dense features, the looked-up user
  rows, the looked-up item rows, the two weights and the two biases, the biases as one-row matrices), the body stores one
  vector, and that vector is written back over the result. The state around the call is every buffer of the core that
  outlives the call, at a valuation; the call changes the result's buffer and no other.
-/
module

public import proofs.«01_k».proof.Proof.IdealTile
public import Idealize.ShloMosaic.Lib.Pipeline.Regions
public import Idealize.ShloMosaic.Lib.Pipeline.RegionsLoop
public import Idealize.ShloMosaic.Lib.Pipeline.Value
public import Idealize.ShloMosaic.Lib.VecWindow
public import proofs.«01_k».proof.Proof.Gen.KernelIdeal.Points

@[expose] public section

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## A window that is a whole array stages the array -/

omit [FloatOps F] in
/-- Reading a whole-array window's block of the array's contents gives the array as its memref reads it. -/
theorem read_wholeWindow {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (f : arr.view.ty.Contents (Elt F)) :
    ((Pipeline.Window.whole arr isOut sync stage sem harr hstage).blk t).view.read (Elt F) f = arr.view.read (Elt F) f := by
  funext y
  rw [View.read_apply, View.read_apply]
  congr 2
  refine congrArg arr.view.emb (funext fun a => Fin.ext ?_)
  rw [Pipeline.Window.rect_emb_val_off]
  show 0 * s.size a + (y a : ℕ) = (y a : ℕ)
  omega

/-! ## The proof data, at an entry valuation -/

variable (W : (c : Dev nD) → (b : Ref sig .tc) → Buf (Elt F) ((c : Thread nD τ).loc b))

/-- The stored vector, as a function of the seven arrays the call reads. -/
abbrev combined (c : Dev nD) : Buf (Elt F) ((c : Thread nD τ).loc main_v3) :=
  k1_pay1 (W c main_arg2) (W c main_arg5) (W c main_v1) (W c main_arg7) (W c main_v2) (W c main_v0_0) (W c main_v0_1)

/-- A bound on the waits the core has recorded when the call starts: those of the SparseCore launch. -/
abbrev recs (c : Dev nD) : Set (SemLoc sig × HIx 1) := {q | (K (F := F)).lev ((SparseCore.T c : Thread nD τ), q.1) q.2 ≤ 8}

/-- The proof data of the call on core `c`: the arrays at `W`, the input buffers as fetched after the body, the result's
    buffer at `combined`; nothing is owed, and nothing but the buffers passes through the body. -/
def dat (c : Dev nD) : Dat τ (Elt F) (HIx 1) ℕ UU ℕ cfg1 c where
  A w := W c (Pipeline.arrRef spec1 w)
  after w _ := match w with
    | ⟨0, _⟩ => W c main_arg2
    | ⟨1, _⟩ => W c main_v0_0
    | ⟨2, _⟩ => W c main_v0_1
    | ⟨3, _⟩ => W c main_arg5
    | ⟨4, _⟩ => W c main_v1
    | ⟨5, _⟩ => W c main_arg7
    | ⟨6, _⟩ => W c main_v2
    | ⟨7, _⟩ => combined W c
  Φ _ := iprop(emp)
  q _ := fullShare
  owed _ := 0
  recorded _ := recs (F := F) c

/-- The one pipeline's proof data as a family. -/
def dats (p : Fin 1) (c : Dev nD) : Dat τ (Elt F) (HIx 1) ℕ UU ℕ (Pipeline.pin (pcfgs (F := F)) (fun p => (cfgs p).toPCfg_adm) p) c :=
  dat W c

omit [FloatOps F] in
/-- The buffer a whole-array window fetches into holds the array. -/
theorem staged {s : Shape} {e : EltTy} {cs : CoreSpace} (arr : Memref sig .tc .hbm s e) (stage : Memref sig .tc (.core cs) ⟨s.rank, s.size⟩ e)
    (sem : DmaSem sig) (hstage : stage.IsWhole) (f : arr.view.ty.Contents (Elt F)) (harr : arr.IsWhole := by exact Memref.isWhole_whole _) :
    ((Pipeline.Window.whole arr false false stage sem harr hstage).blk t1_0).view.read (Elt F) f = arr.view.read (Elt F) f :=
  read_wholeWindow arr false false stage sem harr hstage t1_0 f

/-- At its step the call's operand 0 holds the user features. -/
theorem before_0 (c : Dev nD) (d) : (dat W c).before 0 t1_0 d = W c main_arg2 := by
  unfold Dat.before; rw [if_pos (fetch1_0 _)]; exact staged (Memref.whole main_arg2) (stage1_0 0) (sem1_0 0) (hstage1_0 0) (W c main_arg2)
/-- At its step the call's operand 1 holds the looked-up user rows. -/
theorem before_1 (c : Dev nD) (d) : (dat W c).before 1 t1_0 d = W c main_v0_0 := by
  unfold Dat.before; rw [if_pos (fetch1_1 _)]; exact staged (Memref.whole main_v0_0) (stage1_1 0) (sem1_1 0) (hstage1_1 0) (W c main_v0_0)
/-- At its step the call's operand 2 holds the looked-up item rows. -/
theorem before_2 (c : Dev nD) (d) : (dat W c).before 2 t1_0 d = W c main_v0_1 := by
  unfold Dat.before; rw [if_pos (fetch1_2 _)]; exact staged (Memref.whole main_v0_1) (stage1_2 0) (sem1_2 0) (hstage1_2 0) (W c main_v0_1)
/-- At its step the call's operand 3 holds the first weights. -/
theorem before_3 (c : Dev nD) (d) : (dat W c).before 3 t1_0 d = W c main_arg5 := by
  unfold Dat.before; rw [if_pos (fetch1_3 _)]; exact staged (Memref.whole main_arg5) (stage1_3 0) (sem1_3 0) (hstage1_3 0) (W c main_arg5)
/-- At its step the call's operand 4 holds the first biases, as one row. -/
theorem before_4 (c : Dev nD) (d) : (dat W c).before 4 t1_0 d = W c main_v1 := by
  unfold Dat.before; rw [if_pos (fetch1_4 _)]; exact staged (Memref.whole main_v1) (stage1_4 0) (sem1_4 0) (hstage1_4 0) (W c main_v1)
/-- At its step the call's operand 5 holds the second weights. -/
theorem before_5 (c : Dev nD) (d) : (dat W c).before 5 t1_0 d = W c main_arg7 := by
  unfold Dat.before; rw [if_pos (fetch1_5 _)]; exact staged (Memref.whole main_arg7) (stage1_5 0) (sem1_5 0) (hstage1_5 0) (W c main_arg7)
/-- At its step the call's operand 6 holds the second biases, as one row. -/
theorem before_6 (c : Dev nD) (d) : (dat W c).before 6 t1_0 d = W c main_v2 := by
  unfold Dat.before; rw [if_pos (fetch1_6 _)]; exact staged (Memref.whole main_v2) (stage1_6 0) (sem1_6 0) (hstage1_6 0) (W c main_v2)

/-- After the call the result's array holds `combined`: the one write-back covers it. -/
theorem arrAt_out (c : Dev nD) : (dat W c).arrAt 7 cfg1.N = combined W c :=
  (dat W c).arrAt_eq_of_cover 7 (combined W c)
    (fun _ _ => (read_wholeWindow (F := F) (Memref.whole main_v3) true false (stage1_7 0) (sem1_7 0) (Memref.isWhole_whole _) (hstage1_7 0) _ _).symm)
    (fun i => ⟨t1_0, flush1_7 _, by
      have h := ((cfg1.win 7).blk t1_0).view.emb_mem_set i
      rwa [show ((cfg1.win 7).blk t1_0).view.emb i = i from funext fun a => Fin.ext (by
        show 0 * S16384.size a + 1 * (i a : ℕ) = _; omega)] at h⟩)

/-! ## The body -/

/-- `M`'s buffer on core `c` held whole at `f`. -/
abbrev pt (c : Dev nD) {s : Shape} {e : EltTy} (M : Memref sig .tc .vmem s e) (f : Buf (Elt F) (M.view.loc (c : Thread nD τ))) : sProp 𝕄 :=
  M.view.loc (c : Thread nD τ) ↦{fullShare} f

/-- The body from its eight buffers: the seven inputs come back as they were, and the eighth reads as the payload of what
    the seven read as. -/
theorem combine_run (c : Dev nD) (M0 : Memref sig .tc .vmem S16384x64 .f32) (h0 : M0.IsWhole) (M1 : Memref sig .tc .vmem S16384x16 .f32) (h1 : M1.IsWhole)
    (M2 : Memref sig .tc .vmem S16384x16 .f32) (h2 : M2.IsWhole) (M3 : Memref sig .tc .vmem S64x32 .f32) (h3 : M3.IsWhole)
    (M4 : Memref sig .tc .vmem S1x32 .f32) (h4 : M4.IsWhole) (M5 : Memref sig .tc .vmem S32x16 .f32) (h5 : M5.IsWhole)
    (M6 : Memref sig .tc .vmem S1x16 .f32) (h6 : M6.IsWhole) (M7 : Memref sig .tc .vmem S16384 .f32) (h7 : M7.IsWhole) (f0 f1 f2 f3 f4 f5 f6 f7)
    (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7
        ∗ (iprop(pt c M0 f0 ∗ pt c M1 f1 ∗ pt c M2 f2 ∗ pt c M3 f3 ∗ pt c M4 f4 ∗ pt c M5 f5 ∗ pt c M6 f6
            ∗ ∃ g, ⌜M7.view.read (Elt F) g = k1_pay1 (M0.view.read (Elt F) f0) (M3.view.read (Elt F) f3) (M4.view.read (Elt F) f4)
                (M5.view.read (Elt F) f5) (M6.view.read (Elt F) f6) (M1.view.read (Elt F) f1) (M2.view.read (Elt F) f2)⌝ ∗ pt c M7 g) -∗ Q ⟨⟩))
      ⊢ wp frame (wpE (defs₀ (F := F)) 𝒱₀ (c : Thread nD τ) none) E (cc1__tc_combine_body M0 h0 M1 h1 M2 h2 M3 h3 M4 h4 M5 h5 M6 h6 M7 h7) Q := by
  rw [cc1__tc_combine_body_eq_skeleton]; unfold cc1__tc_combine_body_skel
  iintro ⟨H0, H1, H2, H3, H4, H5, H6, H7, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr; swap; (· iexact H7)
  ipureintro
  rw [View.read_writes_full]
  rw [View.readAt_full M0.view, View.readAt_full M1.view, View.readAt_full M2.view, View.readAt_full M3.view, View.readAt_full M4.view,
    View.readAt_full M5.view, View.readAt_full M6.view]

/-- The body obligation: from the seven fetched buffers the body stores `combined` over the eighth. -/
theorem body_obligation (c : Dev nD) : BodyObligation (dat W c) (defs₀ (F := F)) 𝒱₀ (none : HIx 1) Set.univ := fun t => by
  obtain rfl := fin_N1 t
  rw [bigSep_W1, bigSep_W1]
  simp only [owns_whole_eq]
  rw [show (dat W c).Φ t1_0.castSucc = iprop(emp) from rfl, show (dat W c).Φ t1_0.succ = iprop(emp) from rfl,
    show (dat W c).owesAt (none : HIx 1) t1_0.succ = (dat W c).owesAt (none : HIx 1) t1_0.castSucc from rfl]
  iintro ⟨-, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, -, H7⟩⟩
  rw [before_0] at hf0; rw [before_1] at hf1; rw [before_2] at hf2; rw [before_3] at hf3
  rw [before_4] at hf4; rw [before_5] at hf5; rw [before_6] at hf6
  subst hf0 hf1 hf2 hf3 hf4 hf5 hf6
  iapply (combine_run (F := F) c (stage1_0 0) (hstage1_0 0) (stage1_1 0) (hstage1_1 0) (stage1_2 0) (hstage1_2 0) (stage1_3 0) (hstage1_3 0)
    (stage1_4 0) (hstage1_4 0) (stage1_5 0) (hstage1_5 0) (stage1_6 0) (hstage1_6 0) (stage1_7 0) (hstage1_7 0) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, ⟨%g, %hg, H7⟩⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  iexists _; isplitr; swap; (· iexact H7); ipureintro; dsimp only [dat]; exact hg

/-! ## The region over the state around it -/

/-- The valuation after the call: the result at `combined`, every other buffer as it was. -/
def afterCall (c : Dev nD) (b : Ref sig .tc) : Buf (Elt F) ((c : Thread nD τ).loc b) :=
  if h : b = main_v3 then h ▸ combined W c else W c b

/-- After the call the result holds `combined`. -/
theorem afterCall_out (c : Dev nD) : afterCall W c main_v3 = combined W c := dif_pos rfl
/-- After the call every other buffer is as it was. -/
theorem afterCall_ne (c : Dev nD) (b : Ref sig .tc) (h : b ≠ main_v3) : afterCall W c b = W c b := dif_neg h

/-- What the core owes after the launch: nothing, its recorded waits at or below the launch's levels. -/
abbrev owesNone (c : Dev nD) : sProp 𝕄 :=
  iprop(∃ Ws, ⌜(K (F := F)).WBelow (SparseCore.T c) Ws 8⌝ ∗ owes (c : Thread nD τ) (0 : CellTallies nD τ sig (HIx 1)) Ws)

set_option backward.isDefEq.respectTransparency.types false in
/-- The call as a step of @main: from the core's outliving buffers at `W` to the same buffers at `afterCall W`. -/
def region : Pipeline.RegionSeg (pcfgs (F := F)) (fun p => (cfgs p).toPCfg_adm) (dats W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ owesNone (F := F) c)
  post c := iprop(unscopedBufs c (afterCall W c) ∗ owesNone (F := F) c)
  X _ := iprop(emp)
  Y _ := iprop(emp)
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) (fun p => (cfgs p).toPCfg_adm) (dats W) launch1.win
      launch1.arr_whole c ((dats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr; · ipureintro; exact fun q hq => Or.inl (hWs q hq)
      iexact HO
    isplitr; · iempintro
    iexact Hrest
  hin c := by
    rw [show (dats W 0 c).Φ 0 = iprop(emp) from rfl]
    iintro -; iempintro
  hout c := by
    rw [Pipeline.ownSems0_none, show (Pipeline.scopedRest (Pipeline.pin (pcfgs (F := F)) (fun p => (cfgs p).toPCfg_adm) 0).spec c : sProp 𝕄) = BI.emp from scopedRest1_eq c]
    iintro -
    isplitr; · iempintro
    isplitr; · iempintro
    iempintro
  hexit c := by
    have hjoin := Pipeline.unscopedBufs_of_arrays (p := 0) (pcfgs (F := F)) (fun p => (cfgs p).toPCfg_adm) (Ix := HIx 1) (Name := ℕ) (U := UU) (Lvl := ℕ)
      launch1.win launch1.arr_whole c (dats W) ((dats W 0 c).share_full fun _ => rfl) (W c) (afterCall W c)
      ((dats W 0 c).arrAt · cfg1.N)
      (fun w => by
        fin_cases w
        · exact ((dat W c).arrAt_in 0 rfl _).trans (afterCall_ne W c main_arg2 (by decide)).symm
        · exact ((dat W c).arrAt_in 1 rfl _).trans (afterCall_ne W c main_v0_0 (by decide)).symm
        · exact ((dat W c).arrAt_in 2 rfl _).trans (afterCall_ne W c main_v0_1 (by decide)).symm
        · exact ((dat W c).arrAt_in 3 rfl _).trans (afterCall_ne W c main_arg5 (by decide)).symm
        · exact ((dat W c).arrAt_in 4 rfl _).trans (afterCall_ne W c main_v1 (by decide)).symm
        · exact ((dat W c).arrAt_in 5 rfl _).trans (afterCall_ne W c main_arg7 (by decide)).symm
        · exact ((dat W c).arrAt_in 6 rfl _).trans (afterCall_ne W c main_v2 (by decide)).symm
        · exact (arrAt_out W c).trans (afterCall_out W c).symm)
      (fun b hb => afterCall_ne W c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr; swap; (· iexact HO)
    ipureintro
    intro q hq
    rcases hWs hq with h | ⟨w, s, rfl⟩
    · exact h
    · exact Nat.zero_le _

end Cert.Proof.KernelIdeal

end
-- ==== Proof.IdealMain.lean ====
/-
  The whole program: the SparseCore call, the two host reshapes, the TensorCore call, and the launch that runs them.

  The two calls join at the buffers: what the thirty-two tiles bring back, put together, is the two result arrays at
  `gatherRows`, and that is what the TensorCore call finds in them. So at the end the program's result is `combined` of
  the arguments and the looked-up rows, every argument is as the launch left it, and every semaphore counter is zero.
-/
module

public import proofs.«01_k».proof.Proof.IdealRegion
public import Idealize.ShloMosaic.Lib.Pipeline.Sound

@[expose] public section

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The tiles' parts put together -/

/-- What the tiles hold, over both SparseCores and their sixteen subcores, is the six arrays whole. -/
theorem tiles_join (d : Dev nD) (f : Buf (Elt F) (uoLoc d)) (g : Buf (Elt F) (ioLoc d)) :
    (bigSep Finset.univ fun c : Fin ((K (F := F)).nCore 0) => bigSep Finset.univ fun i => tilePts m d f g (tileNo c i) : sProp 𝕄)
      = iprop((uLoc d ↦{fullShare} m (uLoc d)) ∗ (iLoc d ↦{fullShare} m (iLoc d)) ∗ (utLoc d ↦{fullShare} m (utLoc d))
          ∗ (itLoc d ↦{fullShare} m (itLoc d)) ∗ (uoLoc d ↦{fullShare} f) ∗ (ioLoc d ↦{fullShare} g)) := by
  have e : (bigSep Finset.univ fun c : Fin ((K (F := F)).nCore 0) => bigSep Finset.univ fun i => tilePts m d f g (tileNo c i) : sProp 𝕄)
      = bigSep Finset.univ fun k : Fin 32 => tilePts m d f g k := by
    show (bigSep Finset.univ fun c : Fin 2 => bigSep Finset.univ fun i : Fin 16 => tilePts m d f g (tileEquiv (i, c)) : sProp 𝕄) = _
    rw [BI.bigSep_univ_equiv ((Equiv.prodComm (Fin 2) (Fin 16)).trans tileEquiv) (fun k => tilePts m d f g k), BI.bigSep_univ_prod]
    rfl
  have hid : ∀ k ∈ (Finset.univ : Finset (Fin 32)), ∀ k' ∈ (Finset.univ : Finset (Fin 32)), k ≠ k' → Disjoint (idSet k) (idSet k') :=
    fun _ _ _ _ h => Rect.part_disjoint iddiv h
  have hrow : ∀ k ∈ (Finset.univ : Finset (Fin 32)), ∀ k' ∈ (Finset.univ : Finset (Fin 32)), k ≠ k' → Disjoint (rowSet k) (rowSet k') :=
    fun _ _ _ _ h => Rect.part_disjoint rowdiv h
  have hidU : (Finset.univ : Finset (Fin 32)).biUnion idSet = Finset.univ := Rect.biUnion_part iddiv
  have hrowU : (Finset.univ : Finset (Fin 32)).biUnion rowSet = Finset.univ := Rect.biUnion_part rowdiv
  rw [e]
  unfold tilePts uPart iPart utShare itShare uoPart ioPart tileShare
  simp only [bigSep_sep']
  rw [← pointsTo_biUnion Finset.univ (ℓ := uLoc d) idSet hid, ← pointsTo_biUnion Finset.univ (ℓ := iLoc d) idSet hid,
    ← pointsTo_biUnion Finset.univ (ℓ := uoLoc d) rowSet hrow, ← pointsTo_biUnion Finset.univ (ℓ := ioLoc d) rowSet hrow, hidU, hrowU,
    ShareLeaves.pointsTo_leaves (ℓ := utLoc d) Finset.univ (m (utLoc d)) 5 fullShare,
    ShareLeaves.pointsTo_leaves (ℓ := itLoc d) Finset.univ (m (itLoc d)) 5 fullShare]
  rfl

/-- The arrays the SparseCore call works on: the ids, the tables, and its results at `f` and `g`. -/
abbrev looked (d : Dev nD) (f : Buf (Elt F) (uoLoc d)) (g : Buf (Elt F) (ioLoc d)) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ (uoLoc d ↦{fullShare} f) ∗ (ioLoc d ↦{fullShare} g))

/-- What the thirty-two tiles take, put together: the whole lists, tables and result arrays as the launch left them. -/
theorem st_eq (d : Dev nD) :
    (bigSep Finset.univ fun c : Fin ((K (F := F)).nCore 0) => (P m).st 0 d c : sProp 𝕄) = looked m d (m (uoLoc d)) (m (ioLoc d)) :=
  tiles_join m d _ _

/-- What the thirty-two tiles bring back, put together: the lists and tables unchanged, the results at the rows the ids name. -/
theorem dn_eq (d : Dev nD) :
    (bigSep Finset.univ fun c : Fin ((K (F := F)).nCore 0) => (P m).dn 0 d c : sProp 𝕄) = looked m d (uRows m d) (iRows m d) :=
  tiles_join m d _ _

/-! ## The host operations between the calls -/

/-- The device's buffers as the launch left them, after the SparseCore call, and after each of the two reshapes. -/
def atLaunch (d : Dev nD) : Valuation τ sig (Elt F) := fun b => m (d, b)
def atRows (d : Dev nD) : Valuation τ sig (Elt F) :=
  Function.update (Function.update (atLaunch m d) (Proc.devRef .tc main_v0_0) (uRows m d)) (Proc.devRef .tc main_v0_1) (iRows m d)
abbrev op1 : HloOp τ sig (Elt F) := StableHlo.reshape main_arg6 main_v1 (rfl : (.f32 : EltTy) = .f32) shapeCasts_S32_S1x32
abbrev op2 : HloOp τ sig (Elt F) := StableHlo.reshape main_arg8 main_v2 (rfl : (.f32 : EltTy) = .f32) shapeCasts_S16_S1x16
def atCall (d : Dev nD) : Valuation τ sig (Elt F) := op2.result (op1.result (atRows m d))

/-- What a valuation of the device's buffers gives a buffer of the TensorCore's. -/
abbrev tcOf (V : Valuation τ sig (Elt F)) (d : Dev nD) (b : Ref sig .tc) : Buf (Elt F) ((SparseCore.T d : Thread nD τ).loc b) := V (Proc.devRef .tc b)

/-- What the TensorCore call finds in each buffer. -/
abbrev found (d : Dev nD) (b : Ref sig .tc) : Buf (Elt F) ((SparseCore.T d : Thread nD τ).loc b) := tcOf (atCall m d) d b

/-- After the SparseCore call the user result holds the rows of the user table that the user ids name. -/
theorem atRows_user (d : Dev nD) : atRows m d (Proc.devRef .tc main_v0_0) = uRows m d := by
  unfold atRows
  rw [Function.update_of_ne (by decide), Function.update_self]

/-- After the SparseCore call the item result holds the rows of the item table that the item ids name. -/
theorem atRows_item (d : Dev nD) : atRows m d (Proc.devRef .tc main_v0_1) = iRows m d := by
  unfold atRows
  rw [Function.update_self]

/-- Every other buffer is after the SparseCore call as the launch left it. -/
theorem atRows_ne (d : Dev nD) (b : Ref sig .tc) (h0 : b ≠ main_v0_0) (h1 : b ≠ main_v0_1) :
    atRows m d (Proc.devRef .tc b) = m ((SparseCore.T d).loc b) := by
  unfold atRows
  rw [Function.update_of_ne (StableHlo.devRef_ne_of_ne h1), Function.update_of_ne (StableHlo.devRef_ne_of_ne h0)]
  rfl

/-- A buffer neither reshape writes reaches the TensorCore call as the SparseCore call left it. -/
theorem found_ne (d : Dev nD) (b : Ref sig .tc) (h1 : b ≠ main_v1) (h2 : b ≠ main_v2) : found m d b = atRows m d (Proc.devRef .tc b) := by
  unfold found tcOf atCall
  rw [StableHlo.reshape_result_ne _ _ _ _ _ _ _ h2, StableHlo.reshape_result_ne _ _ _ _ _ _ _ h1]

/-- The hidden layer's bias, as one row. -/
theorem found_bias1 (d : Dev nD) : found m d main_v1 = shapeCast S1x32 (m ((SparseCore.T d).loc main_arg6)) shapeCasts_S32_S1x32 := by
  unfold found tcOf atCall
  rw [StableHlo.reshape_result_ne _ _ _ _ _ _ _ (by decide), StableHlo.reshape_result, atRows_ne m d main_arg6 (by decide) (by decide)]
  rfl

/-- The output layer's bias, as one row. -/
theorem found_bias2 (d : Dev nD) : found m d main_v2 = shapeCast S1x16 (m ((SparseCore.T d).loc main_arg8)) shapeCasts_S16_S1x16 := by
  unfold found tcOf atCall
  rw [StableHlo.reshape_result, StableHlo.reshape_result_ne _ _ _ _ _ _ _ (by decide), atRows_ne m d main_arg8 (by decide) (by decide)]
  rfl

/-! ## The TensorCore's buffers, the six the SparseCore call works on apart -/

/-- The buffers the SparseCore call does not touch. -/
abbrev others (d : Dev nD) (W : (b : Ref sig .tc) → Buf (Elt F) ((SparseCore.T d : Thread nD τ).loc b)) : sProp 𝕄 :=
  iprop(((SparseCore.T d).loc main_arg2 ↦{fullShare} W main_arg2) ∗ ((SparseCore.T d).loc main_arg5 ↦{fullShare} W main_arg5)
    ∗ ((SparseCore.T d).loc main_arg6 ↦{fullShare} W main_arg6) ∗ ((SparseCore.T d).loc main_arg7 ↦{fullShare} W main_arg7)
    ∗ ((SparseCore.T d).loc main_arg8 ↦{fullShare} W main_arg8) ∗ ((SparseCore.T d).loc main_v1 ↦{fullShare} W main_v1)
    ∗ ((SparseCore.T d).loc main_v2 ↦{fullShare} W main_v2) ∗ ((SparseCore.T d).loc main_v3 ↦{fullShare} W main_v3))

/-- The TensorCore's buffers are the six that the SparseCore call works on and the others. -/
theorem unscopedBufs_split (d : Dev nD) (W : (b : Ref sig .tc) → Buf (Elt F) ((SparseCore.T d : Thread nD τ).loc b)) :
    (unscopedBufs d W : sProp 𝕄)
      = iprop((uLoc d ↦{fullShare} W main_arg0) ∗ (iLoc d ↦{fullShare} W main_arg1) ∗ (utLoc d ↦{fullShare} W main_arg3)
          ∗ (itLoc d ↦{fullShare} W main_arg4) ∗ (uoLoc d ↦{fullShare} W main_v0_0) ∗ (ioLoc d ↦{fullShare} W main_v0_1) ∗ others d W) := by
  unfold unscopedBufs
  rw [show (Finset.univ.filter fun b : Ref sig .tc => ¬ b.isScoped)
      = {main_arg0, main_arg1, main_arg3, main_arg4, main_v0_0, main_v0_1, main_arg2, main_arg5, main_arg6, main_arg7, main_arg8, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What the SparseCore call returns, with the untouched buffers, is the TensorCore's buffers at `atRows`. -/
theorem rows_fold (d : Dev nD) :
    iprop(looked m d (uRows m d) (iRows m d) ∗ others d (fun b => m ((SparseCore.T d).loc b)))
      ⊢ (StableHlo.held (SparseCore.T d) (Pipeline.ucRefs τ sig) (atRows m d) : sProp 𝕄) := by
  rw [show (StableHlo.held (SparseCore.T d) (Pipeline.ucRefs τ sig) (atRows m d) : sProp 𝕄) = unscopedBufs d (tcOf (atRows m d) d)
    from (Pipeline.unscopedBufs_held d (atRows m d)).symm, unscopedBufs_split]
  unfold others tcOf
  rw [atRows_user, atRows_item, atRows_ne m d main_arg0 (by decide) (by decide), atRows_ne m d main_arg1 (by decide) (by decide),
    atRows_ne m d main_arg2 (by decide) (by decide), atRows_ne m d main_arg3 (by decide) (by decide), atRows_ne m d main_arg4 (by decide) (by decide),
    atRows_ne m d main_arg5 (by decide) (by decide), atRows_ne m d main_arg6 (by decide) (by decide), atRows_ne m d main_arg7 (by decide) (by decide),
    atRows_ne m d main_arg8 (by decide) (by decide), atRows_ne m d main_v1 (by decide) (by decide), atRows_ne m d main_v2 (by decide) (by decide),
    atRows_ne m d main_v3 (by decide) (by decide)]
  iintro ⟨⟨Hu, Hi, Hut, Hit, Huo, Hio⟩, Hr⟩
  isplitl [Hu]; · iexact Hu
  isplitl [Hi]; · iexact Hi
  isplitl [Hut]; · iexact Hut
  isplitl [Hit]; · iexact Hit
  isplitl [Huo]; · iexact Huo
  isplitl [Hio]; · iexact Hio
  iexact Hr

/-! ## The ghost state at the launch -/

/-- The pipelined region's rounds inside the launch's. -/
abbrev EP : Emb UP 𝕄 := (Emb.inl : Emb UP (UP × Counters)).trans embR

def u₀ (F : FTy → Type) : UU := (initOf (K (F := F)).hsCells (K (F := F)).hsToks,
  (initOf (Pipeline.cells (nD := nD) (τ := τ) cfgs cellOf_inj) (Pipeline.launchToks (nD := nD) (τ := τ) cfgs cellOf_inj), 1))

/-- What a TensorCore takes into the region's protocol. -/
abbrev G (d : Dev nD) : sProp 𝕄 :=
  iprop(Pipeline.cellsGhost (Pipeline.pin (pcfgs (F := F)) fun p => (cfgs p).toPCfg_adm) EP 0 d
    ∗ Pipeline.toksInit (Pipeline.pin (pcfgs (F := F)) fun p => (cfgs p).toPCfg_adm) EP 0 d)

/-- The launch's ghost state gives the handshakes' state and, on each device, the state of the TensorCore call. -/
theorem hu₀ : (ownU (u₀ F) : sProp 𝕄) ⊢ |={Set.univ}=> iprop(BI.own (EH (initOf (K (F := F)).hsCells (K (F := F)).hsToks))
    ∗ bigSep Finset.univ (G (F := F)) ∗ bigSep Finset.univ fun thr : Thread nD τ => bigSep Finset.univ fun q : Fin 1 => (P m).x q thr) := by
  rw [show (bigSep Finset.univ fun thr : Thread nD τ => bigSep Finset.univ fun q : Fin 1 => (P m).x q thr : sProp 𝕄)
      = bigSep Finset.univ fun _ : Thread nD τ => (BI.emp : sProp 𝕄) from bigSep_congr fun _ _ => bigSep_univ_of_subsingleton (0 : Fin 1), bigSep_emp_const]
  unfold u₀
  iintro H
  ihave H := (ownU_pair _ _) $$ H
  icases H with ⟨Hh, Hr⟩
  ihave H := (own_pair_emb (embR (A := UH) (B := UP × Counters)) _ _) $$ Hr
  icases H with ⟨Hp, -⟩
  imod (Pipeline.fund_ghost cfgs (EP (F := F)) cellOf_inj) $$ Hp with ⟨Hc, Ht⟩
  imodintro
  isplitl [Hh]; · iexact Hh
  isplitl; swap; · iempintro
  unfold G
  rw [bigSep_sep']
  isplitl [Hc]
  · ihave H := (Entails.of_eq (bigSep_congr fun (d : Dev nD) _ => bigSep_univ_of_subsingleton (0 : Fin 1))) $$ Hc
    iexact H
  · ihave H := (Entails.of_eq (bigSep_congr fun (d : Dev nD) _ => bigSep_univ_of_subsingleton (0 : Fin 1))) $$ Ht
    iexact H

/-! ## @main -/

variable [FloatOps F]

/-- What @main leaves: the TensorCore's buffers, the result at `combined`. -/
abbrev FIN (d : Dev nD) : sProp 𝕄 := unscopedBufs d (afterCall (found m) d)

/-- The first reshape works on the TensorCore's buffers. -/
theorem op1_within : (op1 (F := F)).bufs ⊆ Pipeline.ucRefs τ sig := Pipeline.sub_ucRefs _ (StableHlo.reshape_bufs_sub _ _ _ _ _ _)
/-- The second reshape works on the TensorCore's buffers. -/
theorem op2_within : (op2 (F := F)).bufs ⊆ Pipeline.ucRefs τ sig := Pipeline.sub_ucRefs _ (StableHlo.reshape_bufs_sub _ _ _ _ _ _)

/-- A TensorCore's state after its last SparseCore call owes nothing; the rest of it. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

/-- After the last SparseCore call the TensorCore's state is: owing nothing, and the rest. -/
theorem tcSt_end (d : Dev nD) : ((K (F := F)).tcSt EH d 1 : sProp 𝕄) = iprop(owesNone (F := F) d ∗ tcRest (F := F) d) := by
  unfold SparseCore.Cfg.tcSt
  rw [(K (F := F)).Otc_end d (n := 1) (Nat.le_refl 1)]
  rfl

/-- The TensorCore call under the SparseCore calls' body table: from the buffers at `found` to the same at `FIN`. -/
theorem region_run [∀ e, Nonempty (Elt F e)] (d : Dev nD) (Q : PUnit → sProp 𝕄) :
    iprop(boundary (SparseCore.T d) ∗ unscopedBufs d (found m d) ∗ owesNone (F := F) d ∗ levAts (K (F := F)).L (K (F := F)).lev ∗ G (F := F) d
        ∗ ((boundary (SparseCore.T d) ∗ FIN m d ∗ owesNone (F := F) d) -∗ Q ⟨⟩))
      ⊢ wp frame (wpE ((K (F := F)).defs (D (F := F))) 𝒱 (SparseCore.T d) none) Set.univ
          (Prog.lift (.customCall (SparseCore.inner (Pipeline.entry 0)) ())) Q := by
  have hprog : (Prog.lift (.customCall (SparseCore.inner (Pipeline.entry 0)) ()) :
        Prog (TpuEff nD τ sig (Elt F) (SparseCore.Sig (ΛP (F := F)) 1) .tc) PUnit)
      = SparseCore.liftProg (.op (.customCall (Pipeline.entry 0) ()) .ret) := rfl
  rw [hprog]
  have hl := (K (F := F)).wp_liftProg (D (F := F)) 𝒱 (SparseCore.T d) Set.univ none
    (.op (.customCall (Pipeline.entry 0) ()) .ret) Q
  refine BI.Entails.trans ?_ hl
  have h := Pipeline.RegionSeg.wp (pcfgs (F := F)) (fun p => (cfgs p).toPCfg_adm) (dats (found m)) (none : HIx 1) cellOf_inj
    (EP (F := F)) defs₀ 𝒱₀ (K (F := F)).L (K (F := F)).lev (region (found m)) d none (fun _ h => nomatch h) .ret Q
  refine BI.Entails.trans (show (_ : sProp 𝕄) ⊢ iprop(((boundary (SparseCore.T d) ∗ FIN m d ∗ owesNone (F := F) d)
        -∗ wp frame (wpE (D (F := F)) 𝒱 (SparseCore.T d) none) Set.univ (Prog.ret ⟨⟩) Q)
      ∗ boundary (SparseCore.T d) ∗ (unscopedBufs d (found m d) ∗ owesNone (F := F) d) ∗ levAts (K (F := F)).L (K (F := F)).lev ∗ G (F := F) d) from ?_) h
  iintro ⟨Hb, Hbufs, HO, #Hlev, ⟨Hc, Ht⟩, Hk⟩
  isplitl [Hk]
  · iintro ⟨Hb, ⟨Hbufs, HO⟩⟩
    rw [wp_ret]; imodintro
    iapply Hk
    isplitl [Hb]; · iexact Hb
    isplitl [Hbufs] <;> iassumption
  isplitl [Hb]; · iexact Hb
  isplitl [Hbufs HO]; · isplitl [Hbufs] <;> iassumption
  isplitr; · iexact Hlev
  isplitl [Hc] <;> iassumption

/-- @main on device `d`'s TensorCore: the SparseCore call from the ids, the tables and the result arrays; the two
    reshapes; the TensorCore call from the buffers at `found`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_split]
  simp only [main, wp_bind, wp_pure]
  iintro ⟨#Hctx, Hst, ⟨Hb, ⟨Hu, Hi, Hut, Hit, Huo, Hio, Hrest⟩, Hts, -⟩, HG⟩
  iapply ((K (F := F)).wp_run (D (F := F)) 𝒱 (EH := EH) (P := P m) κ d 0) $$ [Hst Hu Hi Hut Hit Huo Hio Hb Hrest Hts HG]
  isplitr; · iexact Hctx
  isplitl [Hst]; · iexact Hst
  isplitl [Hu Hi Hut Hit Huo Hio]
  · rw [st_eq]
    isplitl [Hu]; · iexact Hu
    isplitl [Hi]; · iexact Hi
    isplitl [Hut]; · iexact Hut
    isplitl [Hit]; · iexact Hit
    isplitl [Huo] <;> iassumption
  iintro ⟨Hst, Hdn⟩
  ihave Hdn' := (Entails.of_eq (dn_eq m d)) $$ Hdn
  ihave Hheld := (rows_fold m d) $$ [Hdn' Hrest]
  · isplitl [Hdn'] <;> iassumption
  -- the two reshapes
  iapply (StableHlo.wp_hlo_within 𝒱 (SparseCore.T d) none Set.univ (op := op1) (S := Pipeline.ucRefs τ sig) op1_within (V := atRows m d)) $$ [Hb Hheld]
  · isplitl [Hb] <;> iassumption
  iintro ⟨Hb, Hheld⟩
  rw [wp_ret]; imodintro
  iapply (StableHlo.wp_hlo_within 𝒱 (SparseCore.T d) none Set.univ (op := op2) (S := Pipeline.ucRefs τ sig) op2_within
    (V := (op1 (F := F)).result (atRows m d))) $$ [Hb Hheld]
  · isplitl [Hb] <;> iassumption
  iintro ⟨Hb, Hheld⟩
  rw [wp_ret]; imodintro
  ihave Hbufs := (Entails.of_eq (show (StableHlo.held (SparseCore.T d) (Pipeline.ucRefs τ sig) (op2.result (op1.result (atRows m d))) : sProp 𝕄)
    = unscopedBufs d (found m d) from (Pipeline.unscopedBufs_held d (atCall m d)).symm)) $$ Hheld
  -- the TensorCore call, owing nothing
  ihave Hlev := ((K (F := F)).ctx_levAts κ) $$ Hctx
  rw [tcSt_end]
  ihave Hst := (Entails.of_eq (show ((K (F := F)).tcSt EH d ((0 : Fin 1).val + 1) : sProp 𝕄) = _ from tcSt_end d)) $$ Hst
  icases Hst with ⟨HO, Hst⟩
  iapply (region_run m d) $$ [Hb Hbufs HO Hlev HG Hst Hts]
  isplitl [Hb]; · iexact Hb
  isplitl [Hbufs]; · iexact Hbufs
  isplitl [HO]; · iexact HO
  isplitl [Hlev]; · iexact Hlev
  isplitl [HG]; · iexact HG
  iintro ⟨Hb, Hfin, HO⟩
  imodintro
  isplitl [HO Hst]
  · isplitl [HO] <;> iassumption
  isplitl [Hfin]; · iexact Hfin
  isplitl [Hb] <;> iassumption

/-! ## The run -/

/-- What the final memory of device `d` is read to hold. -/
def fq (d : Dev nD) (s' : Phys nD τ sig (Elt F)) : Prop :=
  ∀ b : Ref sig .tc, b.isScoped = false → s'.mem.mem ((SparseCore.T d).loc b) = afterCall (found m) d b

/-- At the end the memory holds, in each of the buffers, what @main leaves there. -/
theorem hfin (d : Dev nD) (s' : Phys nD τ sig (Elt F)) : iprop(FIN m d ∗ SI s') ⊢ (⌜fq m d s'⌝ : sProp 𝕄) := by
  intro x hx b hb
  have h1 : (unscopedBufs d (afterCall (found m) d) : sProp 𝕄)
      ⊢ ((SparseCore.T d).loc b ↦{fullShare} afterCall (found m) d b) := by
    unfold unscopedBufs
    exact bigSep_elim (Finset.mem_filter.mpr ⟨Finset.mem_univ b, by simp [hb]⟩)
  have h2 := ((sep_mono_left h1).trans (sep_comm.1.trans
    (SI_pointsTo_agree (st := s') (ℓ := (SparseCore.T d).loc b) (I := Finset.univ) (q := fullShare) (f := afterCall (found m) d b)))) x hx
  exact funext fun i => h2 i (Finset.mem_univ i)

/-- What the program computes on device `d`: the dot products of the two sides' embeddings, the user side being the
    looked-up row plus the projected features. -/
abbrev result (d : Dev nD) : Buf (Elt F) ((SparseCore.T d : Thread nD τ).loc main_v3) :=
  k1_pay1 (m ((SparseCore.T d).loc main_arg2)) (m ((SparseCore.T d).loc main_arg5))
    (shapeCast S1x32 (m ((SparseCore.T d).loc main_arg6)) shapeCasts_S32_S1x32) (m ((SparseCore.T d).loc main_arg7))
    (shapeCast S1x16 (m ((SparseCore.T d).loc main_arg8)) shapeCasts_S16_S1x16) (uRows m d) (iRows m d)

/-- The TensorCore call finds each argument as the launch left it. -/
theorem found_arg (d : Dev nD) (b : Ref sig .tc) (h0 : b ≠ main_v0_0) (h1 : b ≠ main_v0_1) (h2 : b ≠ main_v1) (h3 : b ≠ main_v2) :
    found m d b = m ((SparseCore.T d).loc b) := (found_ne m d b h2 h3).trans (atRows_ne m d b h0 h1)

/-- The TensorCore call, from what it finds, computes `result`. -/
theorem combined_found (d : Dev nD) : combined (found m) d = result m d := by
  unfold combined result
  rw [found_arg m d main_arg2 (by decide) (by decide) (by decide) (by decide), found_arg m d main_arg5 (by decide) (by decide) (by decide) (by decide),
    found_arg m d main_arg7 (by decide) (by decide) (by decide) (by decide), found_bias1, found_bias2,
    found_ne m d main_v0_0 (by decide) (by decide), found_ne m d main_v0_1 (by decide) (by decide), atRows_user, atRows_item]

/-- The final memory: the result in place, the nine arguments as at the launch. -/
def Final (r : PUnit × MemSt nD τ sig (Elt F)) (c : Dev nD) : Prop :=
  r.2.mem ((SparseCore.T c).loc main_v3) = result m c ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2)
    ∧ r.2.mem ((SparseCore.T c).loc main_arg3) = m ((SparseCore.T c).loc main_arg3) ∧ r.2.mem ((SparseCore.T c).loc main_arg4) = m ((SparseCore.T c).loc main_arg4)
    ∧ r.2.mem ((SparseCore.T c).loc main_arg5) = m ((SparseCore.T c).loc main_arg5) ∧ r.2.mem ((SparseCore.T c).loc main_arg6) = m ((SparseCore.T c).loc main_arg6)
    ∧ r.2.mem ((SparseCore.T c).loc main_arg7) = m ((SparseCore.T c).loc main_arg7) ∧ r.2.mem ((SparseCore.T c).loc main_arg8) = m ((SparseCore.T c).loc main_arg8)

def QC : PUnit × MemSt nD τ sig (Elt F) → Prop := fun r => (∀ c : Dev nD, Final m r c) ∧ r.2.sem = fun _ => 0

/-- A memory that holds what @main leaves is a final memory: the result in place, the arguments unchanged. -/
theorem final_of_read (s' : Phys nD τ sig (Elt F)) (h : ∀ d, fq m d s') (c : Dev nD) : Final m (⟨⟩, s'.mem) c := by
  have arg (b : Ref sig .tc) (hs : b.isScoped = false) (h3 : b ≠ main_v3) (h0 : b ≠ main_v0_0) (h1 : b ≠ main_v0_1) (h2 : b ≠ main_v1) (h4 : b ≠ main_v2) :
      s'.mem.mem ((SparseCore.T c).loc b) = m ((SparseCore.T c).loc b) :=
    (h c b hs).trans ((afterCall_ne (found m) c b h3).trans (found_arg m c b h0 h1 h2 h4))
  refine ⟨(h c main_v3 (by decide)).trans ((afterCall_out (found m) c).trans (combined_found m c)), arg _ ?_ ?_ ?_ ?_ ?_ ?_, arg _ ?_ ?_ ?_ ?_ ?_ ?_,
    arg _ ?_ ?_ ?_ ?_ ?_ ?_, arg _ ?_ ?_ ?_ ?_ ?_ ?_, arg _ ?_ ?_ ?_ ?_ ?_ ?_, arg _ ?_ ?_ ?_ ?_ ?_ ?_, arg _ ?_ ?_ ?_ ?_ ?_ ?_, arg _ ?_ ?_ ?_ ?_ ?_ ?_,
    arg _ ?_ ?_ ?_ ?_ ?_ ?_⟩ <;> decide

/-- The program from any launch memory whose ids name rows: it ends, the result in place, the arguments unchanged, every
    semaphore counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ F) (sep_elim_left.trans (hu₀ m)) (hmain m ρ) (fq m) (hfin m) (QC m)
    (fun s' h hz => ⟨final_of_read m s' h, hz⟩)

end Cert.Proof.KernelIdeal

end
-- ==== Proof.Ids.lean ====
/-
  Ids in range, read off the programs that test for it.

  `all_and`: an `and` over an axis (or over all of an array) is one exactly when every bit it covers is. `ids_in_range`:
  the precondition says of each id that it is at least zero and below the table's height, so as a natural number it is
  below the height. `take_eq_gatherRows`: for such ids the reference's row look-up — wrap a negative id, test the range,
  gather, put a NaN where the test fails — is `gatherRows`.
-/
module

public import proofs.«01_k».proof.Proof.Rows
public import proofs.«01_k».proof.Pre_ids_in_range
public import Idealize.ShloMosaic.Lib.Routing.Ops

@[expose] public section

noncomputable section

namespace Cert.Proof

open Idealize.ShloMosaic Idealize.ShloMosaic.ValueIdx
open Idealize.ShloMosaic.StableHlo.Predicate

/-- Two bits' `and` is one exactly when both are. -/
theorem andi_eq_one (a b : BitVec 1) : IntOp.andi a b = 1#1 ↔ a = 1#1 ∧ b = 1#1 := by revert a b; decide

/-- The `and` of a set of bits and a start bit is one exactly when all of them are. -/
theorem fold_andi_eq_one {ι : Type} [DecidableEq ι] (S : Finset ι) (b : BitVec 1) (f : ι → BitVec 1) :
    S.fold IntOp.andi b f = 1#1 ↔ b = 1#1 ∧ ∀ i ∈ S, f i = 1#1 := by
  induction S using Finset.cons_induction with
  | empty => simp
  | cons a S ha ih => simp only [Finset.fold_cons, andi_eq_one, ih, Finset.mem_cons, forall_eq_or_imp]; tauto

/-- The host's `and` along axes, from a start of one, is one at `j` exactly when every bit that reduces into `j` is. -/
theorem all_and {s t u : Shape} {axes : List (Fin s.rank)} (x : s.Idx → BitVec 1) (init : u.Idx → BitVec 1)
    (h : s.ReducesTo axes t) (hu : 0 < u.numel) (h1 : init (Shape.Idx.first hu) = 1#1) (j : t.Idx) :
    Host.reduce IntOp.andi x init h hu j = 1#1 ↔ ∀ i, h.drop i = j → x i = 1#1 := by
  classical
  rw [Host.reduce_eq_fold, fold_andi_eq_one]
  simp [h1]

/-- A word at least zero and below the table's height, both as signed comparisons, is below it as a natural number. -/
theorem toNat_lt_of_cmpi {v : BitVec 32} (h0 : IntOp.cmpi .sge v 0#32 = 1#1) (h1 : IntOp.cmpi .slt v 1000000#32 = 1#1) :
    v.toNat < 1000000 := by
  simp only [IntOp.cmpi, ofBool_eq_one_iff, BitVec.sle_eq_decide, BitVec.slt_eq_decide, decide_eq_true_eq,
    BitVec.toInt_eq_toNat_cond, BitVec.toNat_ofNat, Nat.reducePow, Nat.reduceMod] at h0 h1
  omega

section Pre

variable [Cert.Pre_ids_in_range.Facts]
variable {F : FTy → Type} [FloatOps F]

/-- One list's part of the precondition: the two `and`s over the list bound every id. -/
theorem ids_lt_of_all (ids : Ids.Idx → BitVec 32) (h : Ids.ReducesTo [0] ⟨0, ![]⟩) (hu : 0 < (⟨0, ![]⟩ : Shape).numel)
    (hb : (⟨0, ![]⟩ : Shape).BroadcastsInDim Ids ![]) (z : (⟨0, ![]⟩ : Shape).Idx)
    (h0 : Host.reduce IntOp.andi (cmpi .sge ids (broadcastInDim Ids ![] hb (constantI ⟨0, ![]⟩ 32 0#32))) (constantI ⟨0, ![]⟩ 1 1#1) h hu z = 1#1)
    (h1 : Host.reduce IntOp.andi (cmpi .slt ids (broadcastInDim Ids ![] hb (constantI ⟨0, ![]⟩ 32 1000000#32))) (constantI ⟨0, ![]⟩ 1 1#1) h hu z = 1#1)
    (j : Ids.Idx) : (ids j).toNat < 1000000 := by
  have hz : h.drop j = z := funext fun a => a.elim0
  exact toNat_lt_of_cmpi ((all_and _ _ h hu rfl z).mp h0 j hz) ((all_and _ _ h hu rfl z).mp h1 j hz)

/-- The precondition bounds every id of both lists by the table's height. -/
theorem ids_in_range (a0 a1 : IVec Cert.Pre_ids_in_range.S16384 32) (a2 : FVec F Cert.Pre_ids_in_range.S16384x64 .f32)
    (a3 a4 : FVec F Cert.Pre_ids_in_range.S1000000x16 .f32) (a5 : FVec F Cert.Pre_ids_in_range.S64x32 .f32)
    (a6 : FVec F Cert.Pre_ids_in_range.S32 .f32) (a7 : FVec F Cert.Pre_ids_in_range.S32x16 .f32) (a8 : FVec F Cert.Pre_ids_in_range.S16 .f32)
    (h : Cert.Pre_ids_in_range.fn a0 a1 a2 a3 a4 a5 a6 a7 a8 = fun _ => 1#1) (j : Ids.Idx) :
    (a0 j).toNat < 1000000 ∧ (a1 j).toNat < 1000000 := by
  have z : (⟨0, ![]⟩ : Shape).Idx := fun a => a.elim0
  obtain ⟨h123, h4⟩ := (andi_eq_one _ _).mp (congrFun h z)
  obtain ⟨h12, h3⟩ := (andi_eq_one _ _).mp h123
  obtain ⟨h1, h2⟩ := (andi_eq_one _ _).mp h12
  exact ⟨ids_lt_of_all a0 _ _ _ z h1 h2 j, ids_lt_of_all a1 _ _ _ z h3 h4 j⟩

end Pre

section Take

/-- The shapes of a column of ids, of one number in one and in two axes, and of a number. -/
abbrev Column : Shape := ⟨2, ![16384, 1]⟩
abbrev One1 : Shape := ⟨1, ![1]⟩
abbrev One2 : Shape := ⟨2, ![1, 1]⟩
abbrev Num : Shape := ⟨0, ![]⟩

variable (hs : Num.BroadcastsInDim Ids ![])

/-- Wrapping negative ids changes no id in range. -/
theorem wrap_eq (ids : Ids.Idx → BitVec 32) (hid : ∀ j, (ids j).toNat < 1000000) :
    select (cmpi .slt ids (broadcastInDim Ids ![] hs (constantI Num 32 0#32)))
      (addi ids (broadcastInDim Ids ![] hs (constantI Num 32 1000000#32))) ids = ids := by
  funext j
  have hn : ¬ IntOp.cmpi .slt (ids j) 0#32 = 1#1 := by
    rw [slt_iff_toNat (by have := hid j; omega) (by decide)]; simp
  exact if_neg hn

/-- An id list as a column reads, in each row, the id of that row. -/
theorem column_apply (hc : Ids.BroadcastsInDim Column ![0]) (ids : Ids.Idx → BitVec 32) (i : Column.Idx) :
    broadcastInDim Column ![0] hc ids i = ids (idAt (i 0)) := by
  have hi : i = (ixP (i 0 : Fin 16384) : Column.Idx) := by
    funext a
    match a with
    | ⟨0, _⟩ => rfl
    | ⟨1, _⟩ => exact Subsingleton.elim (α := Fin 1) _ _
  refine (congrArg (broadcastInDim Column ![0] hc ids) hi).trans ((bcast_col1 hc ids (i 0 : Fin 16384)).trans ?_)
  congr 1
  funext a
  match a with
  | ⟨0, _⟩ => rfl

/-- The gather alone, at ids in range: row `i` of the result is the row id `i` names. -/
theorem gather_row_at {α : Type} (ids : Ids.Idx → BitVec 32) (tab : Table.Idx → α)
    (hid : ∀ j, (ids j).toNat < 1000000) (hc : Ids.BroadcastsInDim Column ![0])
    (g : GatherDims Table Column Looked) (hoff : g.offsetDims = [1]) (hcoll : g.collapsedSliceDims = [0])
    (hob : g.operandBatchingDims = []) (hsim : g.startIndexMap = [0]) (hivd : g.indexVectorDim = 1) (i : Fin 16384) (q : Fin 16) :
    Host.gather g tab (broadcastInDim Column ![0] hc ids) (ix2 i q) = tab (tableAt (rowNamed (ids (idAt i))) q) := by
  have hb : broadcastInDim Column ![0] hc ids (ix2 i (0 : Fin 1)) = BitVec.ofNat 32 (rowNamed (ids (idAt i))).val := by
    rw [column_apply, rowNamed_val (hid _), BitVec.ofNat_toNat, BitVec.setWidth_eq]
  refine (Routing.gather_row g hoff hcoll hob hsim hivd tab _ i q (rowNamed (ids (idAt i))) hb (by decide)).trans ?_
  congr 1
  funext a
  match a with
  | ⟨0, _⟩ => rfl
  | ⟨1, _⟩ => rfl

/-- An index of a looked-up array is its row and its column. -/
theorem looked_eta (j : Looked.Idx) : ∃ (i : Fin 16384) (q : Fin 16), j = ix2 i q := by
  refine ⟨j 0, j 1, ?_⟩
  funext a
  match a with
  | ⟨0, _⟩ => rfl
  | ⟨1, _⟩ => rfl

/-- The gather, at ids in range: the rows the ids name. -/
theorem gather_eq_gatherRows {α : Type} (ids : Ids.Idx → BitVec 32) (tab : Table.Idx → α)
    (hid : ∀ j, (ids j).toNat < 1000000) (hc : Ids.BroadcastsInDim Column ![0])
    (g : GatherDims Table Column Looked) (hoff : g.offsetDims = [1]) (hcoll : g.collapsedSliceDims = [0])
    (hob : g.operandBatchingDims = []) (hsim : g.startIndexMap = [0]) (hivd : g.indexVectorDim = 1) :
    Host.gather g tab (broadcastInDim Column ![0] hc ids) = gatherRows ids tab := by
  funext j
  obtain ⟨i, q, rfl⟩ := looked_eta j
  rw [gather_row_at ids tab hid hc g hoff hcoll hob hsim hivd i q]
  unfold gatherRows
  rfl

/-- A word below the table's height passes the reference's range test. -/
theorem in_range_bits (w : BitVec 32) (h : w.toNat < 1000000) :
    IntOp.andi (IntOp.cmpi .sge w 0#32) (IntOp.cmpi .sle w 999999#32) = 1#1 := by
  refine (andi_eq_one _ _).mpr ⟨(sge_iff_toNat (by omega) (by decide)).mpr (Nat.zero_le _), (sle_iff_toNat (by omega) (by decide)).mpr ?_⟩
  rw [BitVec.toNat_ofNat]
  omega

/-- A selection whose mask is all ones takes its first side. -/
theorem select_ones {s : Shape} {α : Type} (mask : s.Idx → BitVec 1) (x y : s.Idx → α) (h : ∀ i, mask i = 1#1) :
    select mask x y = x := by
  funext i
  exact if_pos (h i)

/-- The reference's row look-up, at ids in range: the rows the ids name. -/
theorem take_eq_gatherRows {α : Type} (ids : Ids.Idx → BitVec 32) (tab : Table.Idx → α) (nan : Looked.Idx → α)
    (hid : ∀ j, (ids j).toNat < 1000000) (hc : Ids.BroadcastsInDim Column ![0]) (hz : Num.BroadcastsInDim Column ![])
    (h11 : One1.BroadcastsInDim One2 ![1]) (h21 : One2.BroadcastsInDim Column ![0, 1]) (hr : Column.ReducesTo [1] Ids) (hu : 0 < Num.numel)
    (hl : Ids.BroadcastsInDim Looked ![0]) (g : GatherDims Table Column Looked) (hoff : g.offsetDims = [1]) (hcoll : g.collapsedSliceDims = [0])
    (hob : g.operandBatchingDims = []) (hsim : g.startIndexMap = [0]) (hivd : g.indexVectorDim = 1) :
    select (broadcastInDim Looked ![0] hl
        (Host.reduce IntOp.andi
          (andi (cmpi .sge (broadcastInDim Column ![0] hc ids) (broadcastInDim Column ![] hz (constantI Num 32 0#32)))
            (cmpi .sle (broadcastInDim Column ![0] hc ids) (broadcastInDim Column ![0, 1] h21 (broadcastInDim One2 ![1] h11 (constantI One1 32 999999#32)))))
          (constantI Num 1 1#1) hr hu))
      (Host.gather g tab (broadcastInDim Column ![0] hc ids)) nan = gatherRows ids tab := by
  have hall : ∀ k : Ids.Idx, Host.reduce IntOp.andi
      (andi (cmpi .sge (broadcastInDim Column ![0] hc ids) (broadcastInDim Column ![] hz (constantI Num 32 0#32)))
        (cmpi .sle (broadcastInDim Column ![0] hc ids) (broadcastInDim Column ![0, 1] h21 (broadcastInDim One2 ![1] h11 (constantI One1 32 999999#32)))))
      (constantI Num 1 1#1) hr hu k = 1#1 := by
    intro k
    refine (all_and _ _ hr hu rfl k).mpr fun i _ => ?_
    have hi := in_range_bits _ (hid (idAt (i 0)))
    rw [← column_apply hc ids i] at hi
    exact hi
  exact (select_ones _ _ _ fun _ => hall _).trans (gather_eq_gatherRows ids tab hid hc g hoff hcoll hob hsim hivd)

end Take

end Cert.Proof

end
-- ==== Proof.Value.lean ====
/-
  The value: what the kernel computes is what the reference computes, over the extended reals.

  `scores` is the reference's arithmetic on two looked-up arrays: the user rows plus the projected features (two matrix
  products, two biases, a maximum with zero), times the item rows, summed over the sixteen columns. `refTake` is the
  reference's row look-up. `pay_eq_scores`: the kernel's body is `scores` — a matrix product into a zero accumulator is
  the host's product, a bias row broadcast from a one-row array is the host's pair of broadcasts, the kernel's lane sum is
  the host's. `ref_value`: at ids in range the reference's result is `scores` of the rows the ids name.
-/
module

public import proofs.«01_k».proof.Proof.Ids
public import proofs.«01_k».proof.Proof.Gen.KernelIdeal.Skeleton
public import proofs.«01_k».proof.Proof.Gen.ReferenceIdeal
public import Idealize.ShloMosaic.Lib.KernelVsHost

@[expose] public section

noncomputable section

namespace Cert.Proof.ReferenceIdeal

open Cert.ReferenceIdeal Cert.ReferenceIdeal.Gen
open Idealize.ShloMosaic Idealize.ShloMosaic.ValueIdx
open Idealize.ShloMosaic.StableHlo.Predicate

section Generic

variable {F : FTy → Type} [FloatOps F]

/-- The reference's ids with negative ones wrapped, as a column. -/
abbrev idColumn (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 1000000#32))) ids)

/-- The reference's row look-up. -/
abbrev refTake (ids : IVec S16384 32) (tab : FVec F S1000000x16 .f32) : FVec F S16384x16 .f32 :=
  select (broadcastInDim S16384x16 ![0] bcast_S16384_S16384x16_0
      (Host.reduce IntOp.andi
        (andi (cmpi .sge (idColumn ids) (broadcastInDim S16384x1 ![] bcast_S_S16384x1 (constantI S_ 32 0#32)))
          (cmpi .sle (idColumn ids) (broadcastInDim S16384x1 ![0, 1] bcast_S1x1_S16384x1_0_1 (broadcastInDim S1x1 ![1] bcast_S1_S1x1_1 (constantI S1 32 999999#32)))))
        (constantI S_ 1 1#1) reducesTo_S16384x1_S16384_d1 h_S_))
    (Host.gather gather_S1000000x16_S16384x1_S16384x16_1_0_n_n_0_1_116 tab (idColumn ids))
    (broadcastInDim S16384x16 ![] bcast_S_S16384x16 (constant S_ .f32 0x7FC00000#32))

/-- The reference's arithmetic on the looked-up user and item rows. -/
abbrev scores (a2 : FVec F S16384x64 .f32) (a5 : FVec F S64x32 .f32) (a6 : FVec F S32 .f32) (a7 : FVec F S32x16 .f32)
    (a8 : FVec F S16 .f32) (u i : FVec F S16384x16 .f32) : FVec F S16384 .f32 :=
  Host.reduceAdd
    (mulf (addf u
        (addf (Host.dotGeneral dot_S16384x32_S32x16_S16384x16_1_0_0_1_n_n none
            (maximumf
              (addf (Host.dotGeneral dot_S16384x64_S64x32_S16384x32_1_0_0_1_n_n none a2 a5)
                (broadcastInDim S16384x32 ![0, 1] bcast_S1x32_S16384x32_0_1 (broadcastInDim S1x32 ![1] bcast_S32_S1x32_1 a6)))
              (broadcastInDim S16384x32 ![] bcast_S_S16384x32 (constant S_ .f32 0x00000000#32))) a7)
          (broadcastInDim S16384x16 ![0, 1] bcast_S1x16_S16384x16_0_1 (broadcastInDim S1x16 ![1] bcast_S16_S1x16_1 a8)))) i)
    (constant S_ .f32 0x00000000#32) reducesTo_S16384x16_S16384_d1 h_S_

/-- The reference's look-up at ids in range: the rows the ids name. -/
theorem refTake_eq (ids : IVec S16384 32) (tab : FVec F S1000000x16 .f32) (hid : ∀ j, (ids j).toNat < 1000000) :
    refTake ids tab = gatherRows ids tab := by
  have hw := wrap_eq bcast_S_S16384 ids hid
  unfold refTake idColumn
  rw [hw]
  exact take_eq_gatherRows ids tab _ hid _ _ _ _ _ _ _ _ rfl rfl rfl rfl rfl

end Generic

/-- A row of biases laid along every row: the kernel's broadcast of its one-row cast is the reference's two broadcasts. -/
theorem bias_eq {α : Type} {m n : Nat} (x : (⟨1, ![n]⟩ : Shape).Idx → α)
    (h1 : (⟨1, ![n]⟩ : Shape).ShapeCasts ⟨2, ![1, n]⟩)
    (hb : (⟨2, ![1, n]⟩ : Shape).Broadcasts ⟨2, ![m, n]⟩)
    (hd : (⟨1, ![n]⟩ : Shape).BroadcastsInDim ⟨2, ![m, n]⟩ ![1]) (hr : (⟨1, ![n]⟩ : Shape).BroadcastsInDim ⟨2, ![1, n]⟩ ![1])
    (hr2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hr2 (broadcastInDim ⟨2, ![1, n]⟩ ![1] hr x) := by
  rw [broadcastTo_row_eq_broadcastInDim x h1 hb hd]
  funext j
  simp only [broadcastInDim]
  congr 1
  funext a
  have ha : a = 0 := Subsingleton.elim _ _
  subst ha
  apply Fin.ext
  have hj : (j 1).val < n := (j 1).isLt
  split
  · rfl
  · split
    · next h => exact absurd h ‹_›
    · rfl

/-- The kernel's body computes the reference's arithmetic. -/
theorem pay_eq_scores (a2 : FVec Ideal S16384x64 .f32) (a5 : FVec Ideal S64x32 .f32) (a6 : FVec Ideal S32 .f32) (a7 : FVec Ideal S32x16 .f32)
    (a8 : FVec Ideal S16 .f32) (u i : FVec Ideal S16384x16 .f32) :
    Cert.KernelIdeal.Gen.k1_pay1 a2 a5 (shapeCast Cert.KernelIdeal.S1x32 a6 Cert.KernelIdeal.Gen.shapeCasts_S32_S1x32) a7
      (shapeCast Cert.KernelIdeal.S1x16 a8 Cert.KernelIdeal.Gen.shapeCasts_S16_S1x16) u i = scores a2 a5 a6 a7 a8 u i := by
  unfold Cert.KernelIdeal.Gen.k1_pay1 scores
  dsimp only
  have hz : (constant S_ .f32 0x00000000#32 : S_.Idx → Ideal .f32) (Shape.Idx.first h_S_) = 0 := Ideal.ofBits_zero_f32
  simp only [shapeCast_self]
  refine (multiReduction_add_eq_hostReduceAdd _ _ _ _ _ (constant S_ .f32 0x00000000#32) reducesTo_S16384x16_S16384_d1 h_S_ hz).trans ?_
  rw [matmul_zero_eq_dotGeneral, matmul_zero_eq_dotGeneral,
    bias_eq a6 _ _ (by decide) bcast_S32_S1x32_1 bcast_S1x32_S16384x32_0_1,
    bias_eq a8 _ _ (by decide) bcast_S16_S1x16_1 bcast_S1x16_S16384x16_0_1]
  rfl

end Cert.Proof.ReferenceIdeal

end
-- ==== Proof.Reference.lean ====
/-
  The reference's run, its result written as `scores` of its two look-ups, and its frame.
-/
module

public import proofs.«01_k».proof.Proof.Value
public import proofs.«01_k».proof.Proof.Gen.ReferenceIdeal.Run
public import Idealize.ShloMosaic.Lib.Claim

@[expose] public section

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- What the reference leaves in its result: `scores` of the two look-ups. -/
abbrev refValue (c : Dev nD) : FVec Ideal S16384 .f32 :=
  scores (m ((c.tc : Thread nD τ).loc main_arg2)) (m ((c.tc : Thread nD τ).loc main_arg5)) (m ((c.tc : Thread nD τ).loc main_arg6))
    (m ((c.tc : Thread nD τ).loc main_arg7)) (m ((c.tc : Thread nD τ).loc main_arg8))
    (refTake (F := Ideal) (m ((c.tc : Thread nD τ).loc main_arg0)) (m ((c.tc : Thread nD τ).loc main_arg3)))
    (refTake (F := Ideal) (m ((c.tc : Thread nD τ).loc main_arg1)) (m ((c.tc : Thread nD τ).loc main_arg4)))

/-- The nine arguments on device `c` as at the launch. -/
abbrev ArgsKept (r : PUnit × MemSt nD τ sig (Elt Ideal)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

/-- The reference's run: its result is `refValue`, its arguments are unchanged. -/
theorem run_ref : θ_run (defs (F := Ideal)) (onTc (τ := τ) (main (F := Ideal))) ⟨m, fun _ => 0, ρ⟩
    fun r => ∀ c : Dev nD, r.2.mem ((c.tc : Thread nD τ).loc main_v14) = refValue m c ∧ ArgsKept m r c :=
  Cert.ReferenceIdeal.Value.run (F := Ideal) m ρ

/-- The reference's frame: it ends with its arguments unchanged and, having no semaphore, with every counter at zero. -/
theorem frame_ref : θ_run (defs (F := Ideal)) (onTc (τ := τ) (main (F := Ideal))) ⟨m, fun _ => 0, ρ⟩
    fun r => (∀ c : Dev nD, ArgsKept m r c) ∧ r.2.sem = fun _ => 0 :=
  (θ_run _ _ _).mono (fun r h => ⟨fun c => (h c).2, Idealize.ShloMosaic.sem_eq_zero_of_no_sems (by decide) r.2⟩) (run_ref m ρ)

end Cert.Proof.ReferenceIdeal

end
-- ==== Proof.lean ====
/-
  The proof of `Cert.Claim`: the kernel's frame as printed and over the extended reals (`run_main`, at the two
  instances), the reference's frame, that the ideal program is the kernel's own text, and that kernel and reference end
  with equal results. The look-up's meaning is in `Proof/Rows.lean`; one tile's run in `Proof/IdealTile.lean`; the TensorCore
  call in `Proof/IdealRegion.lean`; the whole program in `Proof/IdealMain.lean` (the `Bits` modules are the same text for
  the program as printed); what the precondition says of the ids in `Proof/Ids.lean`; the equality of the two values in
  `Proof/Value.lean`; the reference's run in `Proof/Reference.lean`.
-/
module

public import proofs.«01_k».proof.Defs
public import proofs.«01_k».proof.Proof.Gen.Pre_ids_in_range
public import proofs.«01_k».proof.Proof.IdealMain
public import proofs.«01_k».proof.Proof.BitsMain
public import proofs.«01_k».proof.Proof.Reference
public import Idealize.ShloMosaic.Adequacy
public import Idealize.ShloMosaic.Init

@[expose] public section

noncomputable section

namespace Cert.Proof

open Idealize.ShloMosaic Idealize.SL.Sem

/-- Every element type of the program as printed has a value. -/
theorem nonempty_bits (e : EltTy) : Nonempty (Elt Bits e) := inferInstance

/-- Every element type over the extended reals has a value. -/
theorem nonempty_ideal (e : EltTy) : Nonempty (Elt Ideal e) := inferInstance

/-- The precondition bounds the ids the printed kernel finds at launch. -/
theorem preOK_bits [Cert.Pre_ids_in_range.Facts]
    (m : (ℓ : Loc Cert.Kernel.nD Cert.Kernel.τ Cert.Kernel.sig) → Buf (Elt Bits) ℓ) (h : Cert.Pre_Kernel m) : Cert.Proof.Kernel.PreOK m :=
  fun d j => ids_in_range _ _ _ _ _ _ _ _ _ (h d) j

/-- The precondition bounds the ids the ideal kernel finds at launch. -/
theorem preOK_ideal [Cert.Pre_ids_in_range.Facts]
    (m : (ℓ : Loc Cert.KernelIdeal.nD Cert.KernelIdeal.τ Cert.KernelIdeal.sig) → Buf (Elt Ideal) ℓ) (h : Cert.Pre_KernelIdeal m) : Cert.Proof.KernelIdeal.PreOK m :=
  fun d j => ids_in_range _ _ _ _ _ _ _ _ _ (h d) j

/-- The printed kernel's frame. -/
theorem frame_kernel : Cert.quiescent_Kernel := fun m g h =>
  haveI := nonempty_bits
  (θ_run _ _ _).mono (fun _ hr => ⟨fun c => (hr.1 c).2, hr.2⟩) (Cert.Proof.Kernel.run_main m g (preOK_bits m h))

/-- The ideal kernel's frame. -/
theorem frame_ideal : Cert.quiescent_KernelIdeal := fun m g h =>
  haveI := nonempty_ideal
  (θ_run _ _ _).mono (fun _ hr => ⟨fun c => (hr.1 c).2, hr.2⟩) (Cert.Proof.KernelIdeal.run_main m g (preOK_ideal m h))

/-- The reference's frame, from every memory. -/
theorem frame_reference : Cert.quiescent_ReferenceIdeal := fun m g _ => ReferenceIdeal.frame_ref m g

/-- The reference's frame, from memories whose ids are in range. -/
theorem frame_reference_pre : Cert.quiescent_ReferenceIdeal_pre_ids_in_range := fun m g _ => ReferenceIdeal.frame_ref m g

/-- The reference's value from a memory that agrees with the kernel's on the arguments is the kernel's value. -/
theorem refValue_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Proof.KernelIdeal.PreOK m) (c : Dev Cert.KernelIdeal.nD)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ReferenceIdeal.refValue m' c = KernelIdeal.result m c := by
  obtain ⟨h0, h1, h2, h3, h4, h5, h6, h7, h8⟩ := hargs
  unfold ReferenceIdeal.refValue
  rw [h0, h1, h2, h3, h4, h5, h6, h7, h8, ReferenceIdeal.refTake_eq _ _ (fun j => (hpre c j).1),
    ReferenceIdeal.refTake_eq _ _ (fun j => (hpre c j).2)]
  exact (ReferenceIdeal.pay_eq_scores _ _ _ _ _ _ _).symm

/-- Kernel and reference, from memories that agree on the arguments, end with equal results. -/
theorem equal_results : Cert.algebraic_KernelIdeal_ReferenceIdeal := fun m g m' g' hpre hargs =>
  haveI := nonempty_ideal
  ⟨fun c => KernelIdeal.result m c,
    (θ_run _ _ _).mono (fun _ hr c => hr.1 c) (Cert.Proof.KernelIdeal.run_main m g (preOK_ideal m hpre)),
    (θ_run _ _ _).mono (fun _ hr c => ⟨(hr c).1.trans (refValue_eq m m' (preOK_ideal m hpre) c (hargs c)), (hr c).2⟩) (ReferenceIdeal.run_ref m' g')⟩

/-- Every claim, at the side conditions the programs state. -/
theorem claim : Cert.Claim :=
  ⟨Cert.Kernel.Gen.facts, Cert.KernelIdeal.Gen.facts, Cert.ReferenceIdeal.Gen.facts, Cert.Pre_ids_in_range.Gen.facts,
    frame_kernel, frame_ideal, frame_reference, frame_reference_pre, trivial, equal_results⟩

end Cert.Proof

end
